-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_row_max [hPre_finite_row_max : Cert.Pre_finite_row_max.Facts] (m : (ℓ : Loc Cert.KernelIdeal.nD Cert.KernelIdeal.τ Cert.KernelIdeal.sig) → Buf (Elt Ideal) ℓ) : Prop :=
  ∀ c : Dev Cert.KernelIdeal.nD,
    (Cert.Pre_finite_row_max.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_row_max [hPre_finite_row_max : Cert.Pre_finite_row_max.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_row_max.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_row_max [hKernelIdeal : Cert.KernelIdeal.Facts] [hPre_finite_row_max : Cert.Pre_finite_row_max.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_row_max m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_row_max [hReferenceIdeal : Cert.ReferenceIdeal.Facts] [hPre_finite_row_max : Cert.Pre_finite_row_max.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_row_max m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_row_max [hKernelIdeal : Cert.KernelIdeal.Facts] [hReferenceIdeal : Cert.ReferenceIdeal.Facts] [hPre_finite_row_max : Cert.Pre_finite_row_max.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_row_max m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_row_max : Cert.Pre_finite_row_max.Facts),
    quiescent_Kernel (hKernel := hKernel)
    ∧ quiescent_KernelIdeal (hKernelIdeal := hKernelIdeal)
    ∧ quiescent_KernelIdeal_pre_finite_row_max (hKernelIdeal := hKernelIdeal) (hPre_finite_row_max := hPre_finite_row_max)
    ∧ quiescent_ReferenceIdeal (hReferenceIdeal := hReferenceIdeal)
    ∧ quiescent_ReferenceIdeal_pre_finite_row_max (hReferenceIdeal := hReferenceIdeal) (hPre_finite_row_max := hPre_finite_row_max)
    ∧ preserves_Kernel_KernelIdeal
    ∧ algebraic_KernelIdeal_ReferenceIdeal_pre_finite_row_max (hKernelIdeal := hKernelIdeal) (hReferenceIdeal := hReferenceIdeal) (hPre_finite_row_max := hPre_finite_row_max)
-- ==== Pre_finite_row_max.lean ====
abbrev S128x32768 : Shape := ⟨2, ![128, 32768]⟩
abbrev S_ : Shape := ⟨0, ![]⟩
abbrev S128 : Shape := ⟨1, ![128]⟩

class Facts : Prop where
  reducesTo_S128x32768_S128_d1 : S128x32768.ReducesTo [1] S128
  h_S_ : 0 < S_.numel
  bcast_S_S128 : S_.BroadcastsInDim S128 (![] : Fin 0 → Fin S128.rank)

variable [Facts]

def fn {F : FTy → Type} [FloatOps F] (main_arg0 : FVec F S128x32768 .f32) : IVec S128 1 :=
  let main_cst : FVec F S_ .f32 := constant S_ .f32 0xFF800000#32
  let main_v0 : FVec F S128 .f32 := (fun x v => Host.reduce FloatOps.maximumf x v reducesTo_S128x32768_S128_d1 h_S_) main_arg0 main_cst
  let main_v1 : FVec F S128 .f32 := Host.absf main_v0
  let main_cst_0 : FVec F S_ .f32 := constant S_ .f32 0x7F800000#32
  let main_v2 : FVec F S128 .f32 := broadcastInDim S128 ![] bcast_S_S128 main_cst_0
  let main_v3 : IVec S128 1 := cmpf .olt main_v1 main_v2
  main_v3
-- ==== Kernel.lean ====
abbrev S128x32768 : Shape := ⟨2, ![128, 32768]⟩
abbrev S128x327680 : Shape := ⟨2, ![128, 327680]⟩
abbrev S64x32768 : Shape := ⟨2, ![64, 32768]⟩
abbrev S64 : Shape := ⟨1, ![64]⟩
abbrev S64x1 : Shape := ⟨2, ![64, 1]⟩

abbrev nBuf : Space → Nat
  | .hbm => 3
  | .vmem => 9
  | .smem => 0
  | _ => 0

abbrev bufTy : (tb : Table) → Fin (tcTables nBuf tb) → BufTy
  | .hbm, ⟨0, _⟩ => ⟨S128x32768, .f32⟩
  | .hbm, ⟨1, _⟩ => ⟨S128x327680, .bf16⟩
  | .hbm, ⟨2, _⟩ => ⟨S128x32768, .f32⟩
  | .local _ .vmem, ⟨0, _⟩ => ⟨S64x32768, .bf16⟩
  | .local _ .vmem, ⟨1, _⟩ => ⟨S64x32768, .bf16⟩
  | .local _ .vmem, ⟨2, _⟩ => ⟨S64x32768, .f32⟩
  | .local _ .vmem, ⟨3, _⟩ => ⟨S64x32768, .f32⟩
  | .local _ .vmem, ⟨4, _⟩ => ⟨S64x32768, .bf16⟩
  | .local _ .vmem, ⟨5, _⟩ => ⟨S64x32768, .bf16⟩
  | .local _ .vmem, ⟨6, _⟩ => ⟨S64x32768, .f32⟩
  | .local _ .vmem, ⟨7, _⟩ => ⟨S64x32768, .f32⟩
  | .local _ .vmem, ⟨8, _⟩ => ⟨S64x32768, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_scratch0 : Ref sig .tc := ⟨.vmem, 8, rfl⟩
abbrev cc0_sem0_0 : DmaSem sig := 0
abbrev cc0_sem0_1 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x32768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev grid1 : Pipeline.Grid := ⟨2, ![2, 10], ![false, false]⟩

def k1_cond2 (i : grid1.Coords) : BitVec 1 :=
  let arg1 : BitVec 32 := BitVec.ofNat 32 (i 1).val
  let c0_i32_5 : BitVec 32 := 0#32
  let v14 : BitVec 1 := Scalar.cmpi .eq arg1 c0_i32_5
  let v15 : BitVec 32 := Scalar.extui v14
  let c0_i32_6 : BitVec 32 := 0#32
  let v16 : BitVec 1 := Scalar.cmpi .ne v15 c0_i32_6
  v16

def k1_cond3 (i : grid1.Coords) : BitVec 1 :=
  let arg1 : BitVec 32 := BitVec.ofNat 32 (i 1).val
  let c0_i32_7 : BitVec 32 := 0#32
  let v17 : BitVec 1 := Scalar.cmpi .sgt arg1 c0_i32_7
  let v18 : BitVec 32 := Scalar.extui v17
  let c0_i32_8 : BitVec 32 := 0#32
  let v19 : BitVec 1 := Scalar.cmpi .ne v18 c0_i32_8
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x32768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== ReferenceIdeal.lean ====
abbrev S128x32768 : Shape := ⟨2, ![128, 32768]⟩
abbrev S128x1x32768 : Shape := ⟨3, ![128, 1, 32768]⟩
abbrev S_ : Shape := ⟨0, ![]⟩
abbrev S1 : Shape := ⟨1, ![1]⟩
abbrev S2 : Shape := ⟨1, ![2]⟩
abbrev S128x10x32768 : Shape := ⟨3, ![128, 10, 32768]⟩
abbrev S128x10 : Shape := ⟨2, ![128, 10]⟩
abbrev S128x10x1 : Shape := ⟨3, ![128, 10, 1]⟩
abbrev S128x1 : Shape := ⟨2, ![128, 1]⟩
abbrev S128 : Shape := ⟨1, ![128]⟩

abbrev nBuf : Space → Nat
  | .hbm => 310
  | .vmem => 0
  | .smem => 0
  | _ => 0

abbrev hbmTy0_0 (i : Nat) : BufTy := match i % 128 with
  | 0 => ⟨S128x32768, .f32⟩
  | 1 => ⟨S128x1x32768, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S128x10x32768, .i64⟩
  | 17 => ⟨S128x10x32768, .i64⟩
  | 18 => ⟨S128x10x32768, .i64⟩
  | 19 => ⟨S_, .i64⟩
  | 20 => ⟨S128x10x32768, .i64⟩
  | 21 => ⟨S128x10x32768, .i64⟩
  | 22 => ⟨S_, .i64⟩
  | 23 => ⟨S128x10x32768, .i64⟩
  | 24 => ⟨S128x10x32768, .i64⟩
  | 25 => ⟨S_, .i64⟩
  | 26 => ⟨S128x10x32768, .i64⟩
  | 27 => ⟨S128x10x32768, .i64⟩
  | 28 => ⟨S128x10x32768, .i64⟩
  | 29 => ⟨S128x10x32768, .i64⟩
  | 30 => ⟨S_, .i64⟩
  | 31 => ⟨S128x10x32768, .i64⟩
  | 32 => ⟨S128x10x32768, .i64⟩
  | 33 => ⟨S128x10x32768, .i32⟩
  | 34 => ⟨S128x10x32768, .i32⟩
  | 35 => ⟨S_, .i32⟩
  | 36 => ⟨S_, .i32⟩
  | 37 => ⟨S_, .i32⟩
  | 38 => ⟨S128x10x32768, .i32⟩
  | 39 => ⟨S128x10x32768, .i32⟩
  | 40 => ⟨S128x10x32768, .i32⟩
  | 41 => ⟨S128x10x32768, .i32⟩
  | 42 => ⟨S128x10x32768, .i32⟩
  | 43 => ⟨S_, .i32⟩
  | 44 => ⟨S128x10x32768, .i32⟩
  | 45 => ⟨S128x10x32768, .i32⟩
  | 46 => ⟨S_, .i32⟩
  | 47 => ⟨S128x10x32768, .i32⟩
  | 48 => ⟨S128x10x32768, .i32⟩
  | 49 => ⟨S128x10x32768, .i32⟩
  | 50 => ⟨S128x10x32768, .i32⟩
  | 51 => ⟨S128x10x32768, .i32⟩
  | 52 => ⟨S_, .i32⟩
  | 53 => ⟨S128x10x32768, .i32⟩
  | 54 => ⟨S128x10x32768, .i32⟩
  | 55 => ⟨S_, .i32⟩
  | 56 => ⟨S128x10x32768, .i32⟩
  | 57 => ⟨S128x10x32768, .i32⟩
  | 58 => ⟨S128x10x32768, .i32⟩
  | 59 => ⟨S128x10x32768, .i32⟩
  | 60 => ⟨S128x10x32768, .i32⟩
  | 61 => ⟨S_, .i32⟩
  | 62 => ⟨S128x10x32768, .i32⟩
  | 63 => ⟨S128x10x32768, .i32⟩
  | 64 => ⟨S_, .i32⟩
  | 65 => ⟨S128x10x32768, .i32⟩
  | 66 => ⟨S128x10x32768, .i32⟩
  | 67 => ⟨S128x10x32768, .i32⟩
  | 68 => ⟨S128x10x32768, .i32⟩
  | 69 => ⟨S128x10x32768, .i32⟩
  | 70 => ⟨S_, .i32⟩
  | 71 => ⟨S128x10x32768, .i32⟩
  | 72 => ⟨S128x10x32768, .i32⟩
  | 73 => ⟨S_, .i32⟩
  | 74 => ⟨S128x10x32768, .i32⟩
  | 75 => ⟨S128x10x32768, .i32⟩
  | 76 => ⟨S128x10x32768, .i32⟩
  | 77 => ⟨S128x10x32768, .i32⟩
  | 78 => ⟨S128x10x32768, .i32⟩
  | 79 => ⟨S128x10x32768, .i32⟩
  | 80 => ⟨S128x10x32768, .i32⟩
  | 81 => ⟨S128x10x32768, .i32⟩
  | 82 => ⟨S_, .i32⟩
  | 83 => ⟨S128x10x32768, .i32⟩
  | 84 => ⟨S128x10x32768, .i32⟩
  | 85 => ⟨S128x10x32768, .i32⟩
  | 86 => ⟨S_, .i32⟩
  | 87 => ⟨S128x10x32768, .i32⟩
  | 88 => ⟨S128x10x32768, .i32⟩
  | 89 => ⟨S_, .i32⟩
  | 90 => ⟨S128x10x32768, .i32⟩
  | 91 => ⟨S128x10x32768, .i32⟩
  | 92 => ⟨S128x10x32768, .i32⟩
  | 93 => ⟨S128x10x32768, .i32⟩
  | 94 => ⟨S128x10x32768, .i32⟩
  | 95 => ⟨S_, .i32⟩
  | 96 => ⟨S128x10x32768, .i32⟩
  | 97 => ⟨S128x10x32768, .i32⟩
  | 98 => ⟨S_, .i32⟩
  | 99 => ⟨S128x10x32768, .i32⟩
  | 100 => ⟨S128x10x32768, .i32⟩
  | 101 => ⟨S128x10x32768, .i32⟩
  | 102 => ⟨S128x10x32768, .i32⟩
  | 103 => ⟨S128x10x32768, .i32⟩
  | 104 => ⟨S_, .i32⟩
  | 105 => ⟨S128x10x32768, .i32⟩
  | 106 => ⟨S128x10x32768, .i32⟩
  | 107 => ⟨S_, .i32⟩
  | 108 => ⟨S128x10x32768, .i32⟩
  | 109 => ⟨S128x10x32768, .i32⟩
  | 110 => ⟨S128x10x32768, .i32⟩
  | 111 => ⟨S128x10x32768, .i32⟩
  | 112 => ⟨S128x10x32768, .i32⟩
  | 113 => ⟨S_, .i32⟩
  | 114 => ⟨S128x10x32768, .i32⟩
  | 115 => ⟨S128x10x32768, .i32⟩
  | 116 => ⟨S_, .i32⟩
  | 117 => ⟨S128x10x32768, .i32⟩
  | 118 => ⟨S128x10x32768, .i32⟩
  | 119 => ⟨S128x10x32768, .i32⟩
  | 120 => ⟨S128x10x32768, .i32⟩
  | 121 => ⟨S128x10x32768, .i32⟩
  | 122 => ⟨S128x10x32768, .i32⟩
  | 123 => ⟨S128x10x32768, .i32⟩
  | 124 => ⟨S128x10x32768, .i32⟩
  | 125 => ⟨S_, .i32⟩
  | 126 => ⟨S128x10x32768, .i32⟩
  | 127 => ⟨S128x10x32768, .i32⟩
  | _ => ⟨S128x32768, .f32⟩

abbrev hbmTy0_1 (i : Nat) : BufTy := match i % 128 with
  | 0 => ⟨S128x10x32768, .i32⟩
  | 1 => ⟨S_, .i32⟩
  | 2 => ⟨S128x10x32768, .i32⟩
  | 3 => ⟨S128x10x32768, .i32⟩
  | 4 => ⟨S_, .i32⟩
  | 5 => ⟨S128x10x32768, .i32⟩
  | 6 => ⟨S128x10x32768, .i32⟩
  | 7 => ⟨S128x10x32768, .i32⟩
  | 8 => ⟨S128x10x32768, .i32⟩
  | 9 => ⟨S128x10x32768, .i32⟩
  | 10 => ⟨S_, .i32⟩
  | 11 => ⟨S128x10x32768, .i32⟩
  | 12 => ⟨S128x10x32768, .i32⟩
  | 13 => ⟨S_, .i32⟩
  | 14 => ⟨S128x10x32768, .i32⟩
  | 15 => ⟨S128x10x32768, .i32⟩
  | 16 => ⟨S128x10x32768, .i32⟩
  | 17 => ⟨S128x10x32768, .i32⟩
  | 18 => ⟨S128x10x32768, .i32⟩
  | 19 => ⟨S_, .i32⟩
  | 20 => ⟨S128x10x32768, .i32⟩
  | 21 => ⟨S128x10x32768, .i32⟩
  | 22 => ⟨S_, .i32⟩
  | 23 => ⟨S128x10x32768, .i32⟩
  | 24 => ⟨S128x10x32768, .i32⟩
  | 25 => ⟨S128x10x32768, .i32⟩
  | 26 => ⟨S128x10x32768, .i32⟩
  | 27 => ⟨S128x10x32768, .i32⟩
  | 28 => ⟨S_, .i32⟩
  | 29 => ⟨S128x10x32768, .i32⟩
  | 30 => ⟨S128x10x32768, .i32⟩
  | 31 => ⟨S_, .i32⟩
  | 32 => ⟨S128x10x32768, .i32⟩
  | 33 => ⟨S128x10x32768, .i32⟩
  | 34 => ⟨S128x10x32768, .i32⟩
  | 35 => ⟨S128x10x32768, .i32⟩
  | 36 => ⟨S128x10x32768, .i32⟩
  | 37 => ⟨S128x10x32768, .i32⟩
  | 38 => ⟨S128x10x32768, .i32⟩
  | 39 => ⟨S128x10x32768, .i32⟩
  | 40 => ⟨S_, .i32⟩
  | 41 => ⟨S128x10x32768, .i32⟩
  | 42 => ⟨S128x10x32768, .i32⟩
  | 43 => ⟨S128x10x32768, .i32⟩
  | 44 => ⟨S_, .i32⟩
  | 45 => ⟨S128x10x32768, .i32⟩
  | 46 => ⟨S128x10x32768, .i32⟩
  | 47 => ⟨S_, .i32⟩
  | 48 => ⟨S128x10x32768, .i32⟩
  | 49 => ⟨S128x10x32768, .i32⟩
  | 50 => ⟨S128x10x32768, .i32⟩
  | 51 => ⟨S128x10x32768, .i32⟩
  | 52 => ⟨S128x10x32768, .i32⟩
  | 53 => ⟨S_, .i32⟩
  | 54 => ⟨S128x10x32768, .i32⟩
  | 55 => ⟨S128x10x32768, .i32⟩
  | 56 => ⟨S_, .i32⟩
  | 57 => ⟨S128x10x32768, .i32⟩
  | 58 => ⟨S128x10x32768, .i32⟩
  | 59 => ⟨S128x10x32768, .i32⟩
  | 60 => ⟨S128x10x32768, .i32⟩
  | 61 => ⟨S128x10x32768, .i32⟩
  | 62 => ⟨S_, .i32⟩
  | 63 => ⟨S128x10x32768, .i32⟩
  | 64 => ⟨S128x10x32768, .i32⟩
  | 65 => ⟨S_, .i32⟩
  | 66 => ⟨S128x10x32768, .i32⟩
  | 67 => ⟨S128x10x32768, .i32⟩
  | 68 => ⟨S128x10x32768, .i32⟩
  | 69 => ⟨S128x10x32768, .i32⟩
  | 70 => ⟨S128x10x32768, .i32⟩
  | 71 => ⟨S_, .i32⟩
  | 72 => ⟨S128x10x32768, .i32⟩
  | 73 => ⟨S128x10x32768, .i32⟩
  | 74 => ⟨S_, .i32⟩
  | 75 => ⟨S128x10x32768, .i32⟩
  | 76 => ⟨S128x10x32768, .i32⟩
  | 77 => ⟨S128x10x32768, .i32⟩
  | 78 => ⟨S128x10x32768, .i32⟩
  | 79 => ⟨S128x10x32768, .i32⟩
  | 80 => ⟨S128x10x32768, .i32⟩
  | 81 => ⟨S128x10x32768, .i32⟩
  | 82 => ⟨S128x10x32768, .i32⟩
  | 83 => ⟨S_, .i32⟩
  | 84 => ⟨S128x10x32768, .i32⟩
  | 85 => ⟨S128x10x32768, .i32⟩
  | 86 => ⟨S128x10x32768, .i32⟩
  | 87 => ⟨S_, .i32⟩
  | 88 => ⟨S128x10x32768, .i32⟩
  | 89 => ⟨S128x10x32768, .i32⟩
  | 90 => ⟨S_, .i32⟩
  | 91 => ⟨S128x10x32768, .i32⟩
  | 92 => ⟨S128x10x32768, .i32⟩
  | 93 => ⟨S128x10x32768, .i32⟩
  | 94 => ⟨S128x10x32768, .i32⟩
  | 95 => ⟨S128x10x32768, .i32⟩
  | 96 => ⟨S_, .i32⟩
  | 97 => ⟨S128x10x32768, .i32⟩
  | 98 => ⟨S128x10x32768, .i32⟩
  | 99 => ⟨S_, .i32⟩
  | 100 => ⟨S128x10x32768, .i32⟩
  | 101 => ⟨S128x10x32768, .i32⟩
  | 102 => ⟨S128x10x32768, .i32⟩
  | 103 => ⟨S128x10x32768, .i32⟩
  | 104 => ⟨S128x10x32768, .i32⟩
  | 105 => ⟨S_, .i32⟩
  | 106 => ⟨S128x10x32768, .i32⟩
  | 107 => ⟨S128x10x32768, .i32⟩
  | 108 => ⟨S_, .i32⟩
  | 109 => ⟨S128x10x32768, .i32⟩
  | 110 => ⟨S128x10x32768, .i32⟩
  | 111 => ⟨S128x10x32768, .i32⟩
  | 112 => ⟨S128x10x32768, .i32⟩
  | 113 => ⟨S128x10x32768, .i32⟩
  | 114 => ⟨S_, .i32⟩
  | 115 => ⟨S128x10x32768, .i32⟩
  | 116 => ⟨S128x10x32768, .i32⟩
  | 117 => ⟨S_, .i32⟩
  | 118 => ⟨S128x10x32768, .i32⟩
  | 119 => ⟨S128x10x32768, .i32⟩
  | 120 => ⟨S128x10x32768, .i32⟩
  | 121 => ⟨S128x10x32768, .i32⟩
  | 122 => ⟨S128x10x32768, .i32⟩
  | 123 => ⟨S128x10x32768, .i32⟩
  | 124 => ⟨S128x10x32768, .i32⟩
  | 125 => ⟨S128x10x32768, .i32⟩
  | 126 => ⟨S_, .i32⟩
  | 127 => ⟨S128x10x32768, .i32⟩
  | _ => ⟨S128x32768, .f32⟩

abbrev hbmTy0_2 (i : Nat) : BufTy := match i % 128 with
  | 0 => ⟨S128x10x32768, .i32⟩
  | 1 => ⟨S128x10x32768, .i32⟩
  | 2 => ⟨S_, .i32⟩
  | 3 => ⟨S128x10x32768, .i32⟩
  | 4 => ⟨S128x10x32768, .i32⟩
  | 5 => ⟨S_, .i32⟩
  | 6 => ⟨S128x10x32768, .i32⟩
  | 7 => ⟨S128x10x32768, .i32⟩
  | 8 => ⟨S128x10x32768, .f32⟩
  | 9 => ⟨S_, .f32⟩
  | 10 => ⟨S128x10x32768, .f32⟩
  | 11 => ⟨S128x10x32768, .f32⟩
  | 12 => ⟨S_, .f32⟩
  | 13 => ⟨S128x10x32768, .f32⟩
  | 14 => ⟨S128x10x32768, .f32⟩
  | 15 => ⟨S_, .f32⟩
  | 16 => ⟨S128x10x32768, .f32⟩
  | 17 => ⟨S128x10x32768, .f32⟩
  | 18 => ⟨S_, .f32⟩
  | 19 => ⟨S128x10x32768, .f32⟩
  | 20 => ⟨S128x10x32768, .f32⟩
  | 21 => ⟨S128x10x32768, .f32⟩
  | 22 => ⟨S128x10x32768, .f32⟩
  | 23 => ⟨S128x10x32768, .f32⟩
  | 24 => ⟨S128x10x32768, .f32⟩
  | 25 => ⟨S128x10x32768, .f32⟩
  | 26 => ⟨S128x10x32768, .f32⟩
  | 27 => ⟨S_, .f32⟩
  | 28 => ⟨S128x10x32768, .f32⟩
  | 29 => ⟨S128x10x32768, .f32⟩
  | 30 => ⟨S_, .f32⟩
  | 31 => ⟨S128x10, .f32⟩
  | 32 => ⟨S_, .f32⟩
  | 33 => ⟨S128x10, .f32⟩
  | 34 => ⟨S128x10, .f32⟩
  | 35 => ⟨S128x10x1, .f32⟩
  | 36 => ⟨S128x10x32768, .f32⟩
  | 37 => ⟨S128x10x32768, .f32⟩
  | 38 => ⟨S128x10x32768, .f32⟩
  | 39 => ⟨S_, .f32⟩
  | 40 => ⟨S128x10, .f32⟩
  | 41 => ⟨S128x10x1, .f32⟩
  | 42 => ⟨S128x10x32768, .f32⟩
  | 43 => ⟨S128x10x32768, .f32⟩
  | 44 => ⟨S_, .f32⟩
  | 45 => ⟨S128x32768, .f32⟩
  | 46 => ⟨S128x10, .f32⟩
  | 47 => ⟨S128x10, .i32⟩
  | 48 => ⟨S128x1, .f32⟩
  | 49 => ⟨S128, .f32⟩
  | 50 => ⟨S128x1, .f32⟩
  | 51 => ⟨S128x32768, .f32⟩
  | 52 => ⟨S128x32768, .i1⟩
  | 53 => ⟨S128x32768, .f32⟩
  | _ => ⟨S128x32768, .f32⟩

abbrev hbmTy (i : Nat) : BufTy := match i / 128 with
  | 0 => hbmTy0_0 i
  | 1 => hbmTy0_1 i
  | 2 => hbmTy0_2 i
  | _ => ⟨S128x32768, .f32⟩

abbrev bufTy : (tb : Table) → Fin (tcTables nBuf tb) → BufTy
  | .hbm, ⟨i, _⟩ => hbmTy i
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_2 : Ref sig .tc := ⟨.hbm, 19, rfl⟩
abbrev main_v15 : Ref sig .tc := ⟨.hbm, 20, rfl⟩
abbrev main_v16 : Ref sig .tc := ⟨.hbm, 21, rfl⟩
abbrev main_c_3 : Ref sig .tc := ⟨.hbm, 22, rfl⟩
abbrev main_v17 : Ref sig .tc := ⟨.hbm, 23, rfl⟩
abbrev main_v18 : Ref sig .tc := ⟨.hbm, 24, rfl⟩
abbrev main_c_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_5 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_6 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_7 : Ref sig .tc := ⟨.hbm, 43, rfl⟩
abbrev main_v34 : Ref sig .tc := ⟨.hbm, 44, rfl⟩
abbrev main_v35 : Ref sig .tc := ⟨.hbm, 45, rfl⟩
abbrev main_c_8 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_9 : Ref sig .tc := ⟨.hbm, 52, rfl⟩
abbrev main_v41 : Ref sig .tc := ⟨.hbm, 53, rfl⟩
abbrev main_v42 : Ref sig .tc := ⟨.hbm, 54, rfl⟩
abbrev main_c_10 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_11 : Ref sig .tc := ⟨.hbm, 61, rfl⟩
abbrev main_v48 : Ref sig .tc := ⟨.hbm, 62, rfl⟩
abbrev main_v49 : Ref sig .tc := ⟨.hbm, 63, rfl⟩
abbrev main_c_12 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_13 : Ref sig .tc := ⟨.hbm, 70, rfl⟩
abbrev main_v55 : Ref sig .tc := ⟨.hbm, 71, rfl⟩
abbrev main_v56 : Ref sig .tc := ⟨.hbm, 72, rfl⟩
abbrev main_c_14 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_15 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c_16 : Ref sig .tc := ⟨.hbm, 86, rfl⟩
abbrev main_v68 : Ref sig .tc := ⟨.hbm, 87, rfl⟩
abbrev main_v69 : Ref sig .tc := ⟨.hbm, 88, rfl⟩
abbrev main_c_17 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_18 : Ref sig .tc := ⟨.hbm, 95, rfl⟩
abbrev main_v75 : Ref sig .tc := ⟨.hbm, 96, rfl⟩
abbrev main_v76 : Ref sig .tc := ⟨.hbm, 97, rfl⟩
abbrev main_c_19 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_20 : Ref sig .tc := ⟨.hbm, 104, rfl⟩
abbrev main_v82 : Ref sig .tc := ⟨.hbm, 105, rfl⟩
abbrev main_v83 : Ref sig .tc := ⟨.hbm, 106, rfl⟩
abbrev main_c_21 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_c_22 : Ref sig .tc := ⟨.hbm, 113, rfl⟩
abbrev main_v89 : Ref sig .tc := ⟨.hbm, 114, rfl⟩
abbrev main_v90 : Ref sig .tc := ⟨.hbm, 115, rfl⟩
abbrev main_c_23 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_c_24 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_c_25 : Ref sig .tc := ⟨.hbm, 129, rfl⟩
abbrev main_v102 : Ref sig .tc := ⟨.hbm, 130, rfl⟩
abbrev main_v103 : Ref sig .tc := ⟨.hbm, 131, rfl⟩
abbrev main_c_26 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c_27 : Ref sig .tc := ⟨.hbm, 138, rfl⟩
abbrev main_v109 : Ref sig .tc := ⟨.hbm, 139, rfl⟩
abbrev main_v110 : Ref sig .tc := ⟨.hbm, 140, rfl⟩
abbrev main_c_28 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_c_29 : Ref sig .tc := ⟨.hbm, 147, rfl⟩
abbrev main_v116 : Ref sig .tc := ⟨.hbm, 148, rfl⟩
abbrev main_v117 : Ref sig .tc := ⟨.hbm, 149, rfl⟩
abbrev main_c_30 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_c_31 : Ref sig .tc := ⟨.hbm, 156, rfl⟩
abbrev main_v123 : Ref sig .tc := ⟨.hbm, 157, rfl⟩
abbrev main_v124 : Ref sig .tc := ⟨.hbm, 158, rfl⟩
abbrev main_c_32 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_c_33 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_c_34 : Ref sig .tc := ⟨.hbm, 172, rfl⟩
abbrev main_v136 : Ref sig .tc := ⟨.hbm, 173, rfl⟩
abbrev main_v137 : Ref sig .tc := ⟨.hbm, 174, rfl⟩
abbrev main_c_35 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_c_36 : Ref sig .tc := ⟨.hbm, 181, rfl⟩
abbrev main_v143 : Ref sig .tc := ⟨.hbm, 182, rfl⟩
abbrev main_v144 : Ref sig .tc := ⟨.hbm, 183, rfl⟩
abbrev main_c_37 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_c_38 : Ref sig .tc := ⟨.hbm, 190, rfl⟩
abbrev main_v150 : Ref sig .tc := ⟨.hbm, 191, rfl⟩
abbrev main_v151 : Ref sig .tc := ⟨.hbm, 192, rfl⟩
abbrev main_c_39 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_c_40 : Ref sig .tc := ⟨.hbm, 199, rfl⟩
abbrev main_v157 : Ref sig .tc := ⟨.hbm, 200, rfl⟩
abbrev main_v158 : Ref sig .tc := ⟨.hbm, 201, rfl⟩
abbrev main_c_41 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_c_42 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_c_43 : Ref sig .tc := ⟨.hbm, 215, rfl⟩
abbrev main_v170 : Ref sig .tc := ⟨.hbm, 216, rfl⟩
abbrev main_v171 : Ref sig .tc := ⟨.hbm, 217, rfl⟩
abbrev main_c_44 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_c_45 : Ref sig .tc := ⟨.hbm, 224, rfl⟩
abbrev main_v177 : Ref sig .tc := ⟨.hbm, 225, rfl⟩
abbrev main_v178 : Ref sig .tc := ⟨.hbm, 226, rfl⟩
abbrev main_c_46 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_c_47 : Ref sig .tc := ⟨.hbm, 233, rfl⟩
abbrev main_v184 : Ref sig .tc := ⟨.hbm, 234, rfl⟩
abbrev main_v185 : Ref sig .tc := ⟨.hbm, 235, rfl⟩
abbrev main_c_48 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_c_49 : Ref sig .tc := ⟨.hbm, 242, rfl⟩
abbrev main_v191 : Ref sig .tc := ⟨.hbm, 243, rfl⟩
abbrev main_v192 : Ref sig .tc := ⟨.hbm, 244, rfl⟩
abbrev main_c_50 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_c_51 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_c_52 : Ref sig .tc := ⟨.hbm, 258, rfl⟩
abbrev main_v204 : Ref sig .tc := ⟨.hbm, 259, rfl⟩
abbrev main_v205 : Ref sig .tc := ⟨.hbm, 260, rfl⟩
abbrev main_c_53 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_cst : Ref sig .tc := ⟨.hbm, 265, rfl⟩
abbrev main_v209 : Ref sig .tc := ⟨.hbm, 266, rfl⟩
abbrev main_v210 : Ref sig .tc := ⟨.hbm, 267, rfl⟩
abbrev main_cst_54 : Ref sig .tc := ⟨.hbm, 268, rfl⟩
abbrev main_v211 : Ref sig .tc := ⟨.hbm, 269, rfl⟩
abbrev main_v212 : Ref sig .tc := ⟨.hbm, 270, rfl⟩
abbrev main_cst_55 : Ref sig .tc := ⟨.hbm, 271, rfl⟩
abbrev main_v213 : Ref sig .tc := ⟨.hbm, 272, rfl⟩
abbrev main_v214 : Ref sig .tc := ⟨.hbm, 273, rfl⟩
abbrev main_cst_56 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_cst_57 : Ref sig .tc := ⟨.hbm, 283, rfl⟩
abbrev main_v223 : Ref sig .tc := ⟨.hbm, 284, rfl⟩
abbrev main_v224 : Ref sig .tc := ⟨.hbm, 285, rfl⟩
abbrev main_cst_58 : Ref sig .tc := ⟨.hbm, 286, rfl⟩
abbrev main_v225 : Ref sig .tc := ⟨.hbm, 287, rfl⟩
abbrev main_cst_59 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_cst_60 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_cst_61 : Ref sig .tc := ⟨.hbm, 300, rfl⟩
abbrev main_v236 : Ref sig .tc := ⟨.hbm, 301, rfl⟩
abbrev main_values : Ref sig .tc := ⟨.hbm, 302, rfl⟩
abbrev main_indices : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩

abbrev nD : Nat := 1
abbrev τ : Topo := Topo.v7x

variable {F : FTy → Type} [FloatOps F]
-- ==== Proof.TableRegion.lean ====
/-
  THE FIRST PIPELINE: the table of noise factors.

  Its kernel reads nothing: at grid point (i, k) it computes a 64 × 32768 block from the point's own numbers and stores it over the
  whole output block, which the pipeline writes back at that point. Stated here: the block as a function of the grid point (`tableBlock`),
  the kernel's triple, the pipeline's proof data from any entry contents, and the body obligation.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The block the kernel stores -/

/-- The hash's first word after the first two groups of rounds but one step, at grid point `i`: what the kernel's second part takes. -/
def early36 (i : grid0.Coords) : IVec S64x32768 32 := k0_pay9 i
/-- The hash's second word there. -/
def early42 (i : grid0.Coords) : IVec S64x32768 32 := k0_pay10 i
/-- The first hash word between the kernel's second and third parts. -/
def mid83 (i : grid0.Coords) : IVec S64x32768 32 := k0_pay21 (early36 i) (early42 i) k0_pay11
/-- The second hash word there. -/
def mid88 (i : grid0.Coords) : IVec S64x32768 32 := k0_pay22 (early36 i) (early42 i) k0_pay11
/-- The first hash word between the kernel's third and fourth parts. -/
def late130 (i : grid0.Coords) : IVec S64x32768 32 := k0_pay33 (mid83 i) (mid88 i)
/-- The second hash word there, -/
def late131 (i : grid0.Coords) : IVec S64x32768 32 := k0_pay34 (mid83 i) (mid88 i)
/-- and the left half of its rotation. -/
def late133 (i : grid0.Coords) : IVec S64x32768 32 := k0_pay35 (mid83 i) (mid88 i)

/-- The block of the table at grid point `i`. -/
def tableBlock (i : grid0.Coords) : Vec F S64x32768 .bf16 :=
  k0_pay1 (F := F) (k0_pay45 (late130 i) (late131 i) (late133 i) 16#32) (k0_pay46 (late130 i) (late131 i) (late133 i) 16#32) k0_pay47

/-! ## The kernel's triple -/

set_option maxHeartbeats 1000000 in
/-- The kernel on a whole staging memref at anything runs to its end with the memref at the point's block. -/
theorem table_triple (c : Dev nD) (E : Set ℕ) (i : grid0.Coords) (arg2 : Memref sig .tc .vmem S64x32768 .bf16) (harg2 : arg2.IsWhole)
    (K : PUnit → sProp 𝕄) :
    iprop((∃ d, owns (c : Thread nD τ) arg2 fullShare d)
        ∗ (iprop(owns (c : Thread nD τ) arg2 fullShare (tableBlock i)) -∗ K ⟨⟩))
      ⊢ wp frame (wpE (defs₀ (F := F)) Variants.none c none) E (cc0__table_body i arg2 harg2) K := by
  simp only [cc0__table_body_eq_skeleton]; unfold cc0__table_body_skel
  simp only [k0_part1_eq_skeleton, k0_part2_eq_skeleton, k0_part3_eq_skeleton, k0_part4_eq_skeleton]
  unfold owns
  iintro ⟨⟨%d0, %f0, -, H0⟩, Hk⟩
  sl_exec
  sl_step
  iapply Hk
  iexists _; isplitr
  swap; · iexact H0
  ipureintro
  exact (View.read_writes_full _ _ _ _ _).trans rfl

/-! ## The pipeline's proof data -/

variable (V : (c : Dev nD) → Valuation τ sig (Elt F))

/-- The proof data on core `c`, from entry contents `V`: after the body at point `t` the output's buffer holds the point's block;
    the invariant is the scoped buffers that are no staging buffer, untouched; nothing is owed. -/
def tableDat (c : Dev nD) : Dat τ (Elt F) Unit ℕ (UR sig nD τ) ℕ cfg0 c where
  A w := V c (Proc.devRef .tc (Pipeline.arrRef spec0 w))
  after w t := match w with
    | ⟨0, _⟩ => tableBlock (grid0.coords t)
  Φ _ := Pipeline.ΦA spec0 c
  q _ := fullShare
  owed _ := 0

/-- The proof data's array at entry. -/
theorem tableDat_A (c : Dev nD) (w : Fin cfg0.W) : (tableDat V c).A w = V c (Proc.devRef .tc (Pipeline.arrRef spec0 w)) := by
  dsimp only [tableDat]

/-- What the body leaves in the output's buffer. -/
theorem tableDat_after (c : Dev nD) (t : Fin cfg0.N) : (tableDat V c).after 0 t = tableBlock (grid0.coords t) := by
  dsimp only [tableDat]

/-- The body at point `t`, between the invariant with the staging buffer at its entry and at its exit. -/
theorem table_body (c : Dev nD) (t : Fin cfg0.N) :
    iprop((tableDat V c).Φ t.castSucc ∗ (tableDat V c).owesAt () t.castSucc
        ∗ (∃ d, owns (c : Thread nD τ) (st0_0 t) fullShare ((tableDat V c).before 0 t d)))
      ⊢ wp frame (wpE (defs₀ (F := F)) Variants.none c none) Set.univ (bodyAt0 t) (fun _ =>
          iprop((tableDat V c).Φ t.succ ∗ (tableDat V c).owesAt () t.succ
            ∗ owns (c : Thread nD τ) (st0_0 t) fullShare ((tableDat V c).after 0 t))) := by
  unfold bodyAt0
  rw [show (tableDat V c).Φ t.succ = (tableDat V c).Φ t.castSucc from rfl,
    show (tableDat V c).owesAt () t.succ = (tableDat V c).owesAt () t.castSucc from rfl,
    tableDat_after]
  iintro ⟨HΦ, Ho, ⟨%d0, H0⟩⟩
  iapply (table_triple c Set.univ (grid0.coords t) _ _ _)
  isplitl [H0]; · iexists _; iexact H0
  iintro H0
  isplitl [HΦ]; · iexact HΦ
  isplitl [Ho]; · iexact Ho
  iexact H0

/-- The body table's row for this pipeline at point `t`. -/
theorem table_row (t : Fin cfg0.N) :
    defs₀ (F := F) .tc cfg0.body (cfg0.bodyArgs t (cfg0.slots t)) = bodyAt0 t := by
  unfold defs₀; rw [Defs.onTc_tc]

/-- The library's body obligation at every point. -/
theorem table_obligation (c : Dev nD) : BodyObligation (tableDat V c) (defs₀ (F := F)) Variants.none () Set.univ := fun t => by
  rw [bigSep_W0, bigSep_W0, table_row]
  exact triple_restated (table_body V c t) rfl .rfl fun _ => .rfl

end Cert.KernelIdeal.Hand

end
-- ==== Proof.MainBody.lean ====
/-
  THE SECOND PIPELINE'S KERNEL, on whole staging memrefs.

  At a grid point (i, k) it holds a block of 64 rows of the logits, the table's block for the round `k`, the output's block, and a scratch.
  At k = 0 it computes the rows' exponentials into the scratch and stores the round's normalised products over the output;
  at k > 0 it reads the scratch and stores the larger of the output and the round's normalised products. Stated here: the two cases' triples,
  with what each leaves in the output's buffer and in the scratch as the printed payload functions of what it found.
-/
module

public import proofs.«01_k».proof.Proof.TableRegion

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition at grid point `i`: the second coordinate is zero, as the kernel computes it. -/
abbrev isFirst (i : grid1.Coords) : Prop :=
  (Scalar.cmpi .ne (Scalar.extui (Scalar.cmpi .eq (BitVec.ofNat 32 (i 1).val) 0#32)) 0#32) = 1#1

set_option maxHeartbeats 1000000 in
/-- At the first round of a block of rows: the scratch ends with the rows' exponentials and the output with the round's normalised products. -/
theorem first_triple (c : Dev nD) (E : Set ℕ) (i : grid1.Coords) (arg2 : Memref sig .tc .vmem S64x32768 .f32) (harg2 : arg2.IsWhole)
    (arg3 : Memref sig .tc .vmem S64x32768 .bf16) (harg3 : arg3.IsWhole) (arg4 : Memref sig .tc .vmem S64x32768 .f32) (harg4 : arg4.IsWhole)
    (arg5 : Memref sig .tc .vmem S64x32768 .f32) (harg5 : arg5.IsWhole) (hc0 : isFirst i) (hc1 : k1_cond2 i = 1#1) (hc2 : ¬k1_cond3 i = 1#1)
    (x0 : Vec F S64x32768 .f32) (x1 : Vec F S64x32768 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k1_pay2 (k1_pay1 x0) x1) ∗ owns (c : Thread nD τ) arg5 fullShare (k1_pay1 x0)) -∗ K ⟨⟩))
      ⊢ wp frame (wpE (defs₀ (F := F)) Variants.none c none) E (cc1__body i arg2 harg2 arg3 harg3 arg4 harg4 arg5 harg5) K := by
  simp only [cc1__body_eq_skeleton]; unfold cc1__body_skel
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    exact congrArg₂ k1_pay2 ((View.readCov_full _ _ _ _ _).trans (congrArg k1_pay1 ((View.readAt_full _ _ _).trans (harg2.read_unread _))))
      ((View.readAt_full _ _ _).trans (harg3.read_unread _))
  iexists _; isplitr
  swap; · iexact HS0
  ipureintro
  refine (View.read_writes_full _ _ _ _ _).trans ?_
  exact congrArg k1_pay1 ((View.readAt_full _ _ _).trans (harg2.read_unread _))

set_option maxHeartbeats 1000000 in
/-- At a later round: the scratch stays as found and the output ends with the larger of what it held and the round's normalised products. -/
theorem later_triple (c : Dev nD) (E : Set ℕ) (i : grid1.Coords) (arg2 : Memref sig .tc .vmem S64x32768 .f32) (harg2 : arg2.IsWhole)
    (arg3 : Memref sig .tc .vmem S64x32768 .bf16) (harg3 : arg3.IsWhole) (arg4 : Memref sig .tc .vmem S64x32768 .f32) (harg4 : arg4.IsWhole)
    (arg5 : Memref sig .tc .vmem S64x32768 .f32) (harg5 : arg5.IsWhole) (hc0 : ¬isFirst i) (hc1 : ¬k1_cond2 i = 1#1) (hc2 : k1_cond3 i = 1#1)
    (x0 : Vec F S64x32768 .f32) (x1 : Vec F S64x32768 .bf16) (xo xs : Vec F S64x32768 .f32) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare (k1_pay3 xs x1 xo) ∗ owns (c : Thread nD τ) arg5 fullShare xs) -∗ K ⟨⟩))
      ⊢ wp frame (wpE (defs₀ (F := F)) Variants.none c none) E (cc1__body i arg2 harg2 arg3 harg3 arg4 harg4 arg5 harg5) K := by
  simp only [cc1__body_eq_skeleton]; unfold cc1__body_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    rw [show ∀ a a' b b' d d', a = a' → b = b' → d = d' → k1_pay3 (F := F) a b d = k1_pay3 a' b' d' from by rintro _ _ _ _ _ _ rfl rfl rfl; rfl]
    · exact (View.readAt_full _ _ _).trans (harg5.read_unread _)
    · exact (View.readAt_full _ _ _).trans (harg3.read_unread _)
    · exact (View.readAt_full _ _ _).trans (harg4.read_unread _)
  iexists _; isplitr; · ipureintro; exact harg5.read_unread _
  iexact HS0

end Cert.KernelIdeal.Hand

end
-- ==== Proof.MainRegion.lean ====
/-
  THE SECOND PIPELINE: the running maximum over the ten rounds.

  The grid's point `10 b + k` is block `b` of rows at round `k`. Stated here, from any entry contents of the arrays: what the output's buffer
  and the scratch hold after each point (`outAt`, `scrAt`), the pipeline's proof data, and the body obligation.
-/
module

public import proofs.«01_k».proof.Proof.MainBody
public import Idealize.ShloMosaic.Lib.Pipeline.TableIdle
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid's points -/

/-- The first branch is taken at the points that are multiples of ten. -/
theorem isFirst_iff (t : Fin cfg1.N) : isFirst (grid1.coords t) ↔ t.val % 10 = 0 := by
  have ht : t.val < 20 := Nat.lt_of_lt_of_eq t.isLt N_1
  have e1 : (grid1.coords t 1).val = t.val / 1 % 10 := Pipeline.Grid.coords_val t 1 (by decide) rfl
  simp only [isFirst, e1]
  word_cmp

/-- So is the second. -/
theorem cond2_iff (t : Fin cfg1.N) : k1_cond2 (grid1.coords t) = 1#1 ↔ t.val % 10 = 0 := by
  have ht : t.val < 20 := Nat.lt_of_lt_of_eq t.isLt N_1
  have e1 : (grid1.coords t 1).val = t.val / 1 % 10 := Pipeline.Grid.coords_val t 1 (by decide) rfl
  simp only [k1_cond2, e1]
  word_cmp

/-- The third is taken at the other points. -/
theorem cond3_iff : ∀ t : Fin cfg1.N, k1_cond3 (grid1.coords t) = 1#1 ↔ 1 ≤ t.val % 10 :=
  (by decide +kernel : ∀ t : Fin grid1.N, k1_cond3 (grid1.coords t) = 1#1 ↔ 1 ≤ t.val % 10)

/-- The output's window is used at every point. -/
theorem live_out : ∀ t : Fin cfg1.N, cfg1.idle 2 (grid1.coords t) = false := by decide +kernel

/-- Whether the output's buffer holds nothing stored since the last write-back, at each position: at 0, 10 and 20. -/
def freshTab : ℕ → Bool
  | 0 => true
  | n + 1 => (0x80200 : ℕ).testBit n

/-- The table follows the pipeline's own step. -/
theorem freshTab_step : ∀ t : Fin cfg1.N,
    freshTab (t.val + 1) = ((cfg1.win 2).flush t || (cfg1.idle 2 (cfg1.grid.coords t) && freshTab t.val)) := by decide +kernel

/-- The table is the library's. -/
theorem fresh_eq (t : Fin cfg1.N) : cfg1.fresh 2 t.val = freshTab t.val :=
  Pipeline.Cfg.fresh_tab cfg1 2 freshTab rfl freshTab_step t.val (Nat.le_of_lt t.isLt)

/-- At a later round the output's buffer holds what the point before stored. -/
theorem not_fresh (t : Fin cfg1.N) (h : ¬t.val % 10 = 0) : cfg1.fresh 2 t.val = false := by
  rw [fresh_eq]
  exact (by decide +kernel : ∀ t : Fin grid1.N, ¬t.val % 10 = 0 → freshTab t.val = false) t h

/-! ## The invariant between points -/

/-- The class invariant as the three scoped buffers that are no staging buffer, each at anything, and the generator's register. -/
theorem phiA_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ d, owns (c : Thread nD τ) (Memref.whole cc1_scratch0) fullShare d)) ∗ (∃ r, prngReg c r)) := by
  unfold Pipeline.ΦA
  rw [scopedRest1_eq]
  simp only [owns_whole]

/-! ## What the buffers hold after each point -/

variable (V : (c : Dev nD) → Valuation τ sig (Elt F))

/-- Window `w`'s block at point `t`, read off its array at entry. -/
def blockAt (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The scratch after point `n`: the exponentials of the block of rows at the last multiple of ten. -/
def scrAt (c : Dev nD) : (n : ℕ) → n < cfg1.N → Vec F S64x32768 .f32
  | 0, hn => k1_pay1 (blockAt V c 0 ⟨0, hn⟩)
  | n + 1, hn => if (n + 1) % 10 = 0 then k1_pay1 (blockAt V c 0 ⟨n + 1, hn⟩) else scrAt c n (Nat.lt_of_succ_lt hn)

/-- The output's buffer after point `n`: the round's normalised products at a multiple of ten, else the larger of them and what was there. -/
def outAt (c : Dev nD) : (n : ℕ) → n < cfg1.N → Vec F S64x32768 .f32
  | 0, hn => k1_pay2 (scrAt V c 0 hn) (blockAt V c 1 ⟨0, hn⟩)
  | n + 1, hn =>
    if (n + 1) % 10 = 0 then k1_pay2 (scrAt V c (n + 1) hn) (blockAt V c 1 ⟨n + 1, hn⟩)
    else k1_pay3 (scrAt V c n (Nat.lt_of_succ_lt hn)) (blockAt V c 1 ⟨n + 1, hn⟩) (outAt c n (Nat.lt_of_succ_lt hn))

/-- The scratch at a multiple of ten. -/
theorem scrAt_first (c : Dev nD) (t : Fin cfg1.N) (h : t.val % 10 = 0) : scrAt V c t.val t.isLt = k1_pay1 (blockAt V c 0 t) := by
  obtain ⟨n, hn⟩ := t
  cases n with
  | zero => rfl
  | succ n => exact if_pos h

/-- The scratch elsewhere. -/
theorem scrAt_later (c : Dev nD) (t : Fin cfg1.N) (h : ¬t.val % 10 = 0) :
    scrAt V c t.val t.isLt = scrAt V c (t.val - 1) (Nat.lt_of_le_of_lt (Nat.sub_le _ _) t.isLt) := by
  obtain ⟨n, hn⟩ := t
  cases n with
  | zero => exact absurd (Nat.zero_mod _) h
  | succ n => exact if_neg h

/-- The output at a multiple of ten. -/
theorem outAt_first (c : Dev nD) (t : Fin cfg1.N) (h : t.val % 10 = 0) :
    outAt V c t.val t.isLt = k1_pay2 (k1_pay1 (blockAt V c 0 t)) (blockAt V c 1 t) := by
  rw [← scrAt_first V c t h]
  obtain ⟨n, hn⟩ := t
  cases n with
  | zero => rfl
  | succ n => exact if_pos h

/-- The output elsewhere. -/
theorem outAt_later (c : Dev nD) (t : Fin cfg1.N) (h : ¬t.val % 10 = 0) :
    outAt V c t.val t.isLt = k1_pay3 (scrAt V c (t.val - 1) (Nat.lt_of_le_of_lt (Nat.sub_le _ _) t.isLt)) (blockAt V c 1 t)
      (outAt V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: at first the class's; then the same with the scratch at what the point before left. -/
def phiAt (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ owns (c : Thread nD τ) (Memref.whole cc1_scratch0) fullShare (scrAt V c n hn)) ∗ (∃ r, prngReg c r))

/-- Before the first point. -/
theorem phiAt_zero (c : Dev nD) (n : ℕ) (h : n ≤ cfg1.N) (hz : n = 0) : phiAt V c n h = Pipeline.ΦA spec1 c := by
  subst hz; rfl

/-- After a point. -/
theorem phiAt_succ (c : Dev nD) (n : ℕ) (hn : n < cfg1.N) :
    phiAt V c (n + 1) hn = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ owns (c : Thread nD τ) (Memref.whole cc1_scratch0) fullShare (scrAt V c n hn)) ∗ (∃ r, prngReg c r)) := rfl

/-- Before a point that is not the first. -/
theorem phiAt_pos (c : Dev nD) (n : ℕ) (h : n ≤ cfg1.N) (hz : n ≠ 0) :
    phiAt V c n h = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ owns (c : Thread nD τ) (Memref.whole cc1_scratch0) fullShare (scrAt V c (n - 1) (by omega))) ∗ (∃ r, prngReg c r)) := by
  cases n with
  | zero => exact absurd rfl hz
  | succ n => rfl

/-! ## The pipeline's proof data -/

/-- The proof data on core `c`, from entry contents `V`. -/
def mainDat (c : Dev nD) : Dat τ (Elt F) Unit ℕ (UR sig nD τ) ℕ cfg1 c where
  A w := V c (Proc.devRef .tc (Pipeline.arrRef spec1 w))
  after w t := match w with
    | ⟨0, _⟩ => blockAt V c 0 t
    | ⟨1, _⟩ => blockAt V c 1 t
    | ⟨2, _⟩ => outAt V c t.val t.isLt
  Φ t := phiAt V c t.val (Nat.le_of_lt_succ t.isLt)
  q _ := fullShare
  owed _ := 0

/-- The proof data's arrays at entry. -/
theorem mainDat_A (c : Dev nD) (w : Fin cfg1.W) : (mainDat V c).A w = V c (Proc.devRef .tc (Pipeline.arrRef spec1 w)) := by
  dsimp only [mainDat]

/-- The invariant at a point's start. -/
theorem mainDat_phi (c : Dev nD) (t : Fin cfg1.N) : (mainDat V c).Φ t.castSucc = phiAt V c t.val (Nat.le_of_lt t.isLt) := by
  dsimp only [mainDat]; exact Pipeline.Dat.Φ_castSucc (phiAt V c) t

/-- The body leaves the rows' block in place, -/
theorem mainDat_after0 (c : Dev nD) (t : Fin cfg1.N) : (mainDat V c).after 0 t = blockAt V c 0 t := by dsimp only [mainDat]
/-- the table's block in place, -/
theorem mainDat_after1 (c : Dev nD) (t : Fin cfg1.N) : (mainDat V c).after 1 t = blockAt V c 1 t := by dsimp only [mainDat]
/-- and the output's buffer at `outAt`. -/
theorem mainDat_after2 (c : Dev nD) (t : Fin cfg1.N) : (mainDat V c).after 2 t = outAt V c t.val t.isLt := by dsimp only [mainDat]

/-- The rows' staging buffer holds their block at every point, fetched there or not. -/
theorem mainDat_before0 (c : Dev nD) (t : Fin cfg1.N) (d) : (mainDat V c).before 0 t d = blockAt V c 0 t :=
  ((mainDat V c).before_in_eq_fetched 0 rfl (fun _ => rfl) (fun _ _ _ => rfl)
      (fun t => by rw [mainDat_after0]; unfold Dat.blockOf blockAt; rw [mainDat_A]) t d).trans
    (by unfold Dat.fetched Dat.blockOf blockAt; rw [mainDat_A]; try rfl)

/-- The table's staging buffer holds its block at every point. -/
theorem mainDat_before1 (c : Dev nD) (t : Fin cfg1.N) (d) : (mainDat V c).before 1 t d = blockAt V c 1 t :=
  ((mainDat V c).before_in_eq_fetched 1 rfl (fun _ => rfl) (fun _ _ _ => rfl)
      (fun t => by rw [mainDat_after1]; unfold Dat.blockOf blockAt; rw [mainDat_A]) t d).trans
    (by unfold Dat.fetched Dat.blockOf blockAt; rw [mainDat_A]; try rfl)

/-- At a later round the output's staging buffer holds what the point before left. -/
theorem mainDat_before2 (c : Dev nD) (t : Fin cfg1.N) (h : ¬t.val % 10 = 0) (d) :
    (mainDat V c).before 2 t d = outAt V c (t.val - 1) (Nat.lt_of_le_of_lt (Nat.sub_le _ _) t.isLt) := by
  rw [Dat.before_out_traj _ 2 rfl (fun _ _ => rfl) (fun t _ hi _ => absurd ((live_out t).symm.trans hi) Bool.false_ne_true) t.val t rfl d,
    if_neg (by rw [not_fresh t h]; exact Bool.false_ne_true)]
  dsimp only [mainDat]

/-! ## The body obligation -/

set_option maxHeartbeats 1600000 in
/-- The body at point `t`, between the invariant with the staging buffers at their entry and at their exit. -/
theorem main_body (c : Dev nD) (t : Fin cfg1.N) :
    iprop((mainDat V c).Φ t.castSucc ∗ (mainDat V c).owesAt () t.castSucc
        ∗ (∃ d, owns (c : Thread nD τ) (st1_0 t) fullShare ((mainDat V c).before 0 t d))
        ∗ (∃ d, owns (c : Thread nD τ) (st1_1 t) fullShare ((mainDat V c).before 1 t d))
        ∗ (∃ d, owns (c : Thread nD τ) (st1_2 t) fullShare ((mainDat V c).before 2 t d)))
      ⊢ wp frame (wpE (defs₀ (F := F)) Variants.none c none) Set.univ (bodyAt1 t) (fun _ =>
          iprop((mainDat V c).Φ t.succ ∗ (mainDat V c).owesAt () t.succ
            ∗ (mainDat V c).leavesExact 0 t ∗ (mainDat V c).leavesExact 1 t ∗ (mainDat V c).leavesExact 2 t)) := by
  unfold bodyAt1
  simp only [mainDat_before0, mainDat_before1]
  rw [show (mainDat V c).owesAt () t.succ = (mainDat V c).owesAt () t.castSucc from rfl]
  rw [show (mainDat V c).Φ t.succ = phiAt V c (t.val + 1) t.isLt from rfl, phiAt_succ]
  rw [show (mainDat V c).leavesExact 0 t = owns (c : Thread nD τ) (st1_0 t) fullShare ((mainDat V c).after 0 t) from rfl, mainDat_after0]
  rw [show (mainDat V c).leavesExact 1 t = owns (c : Thread nD τ) (st1_1 t) fullShare ((mainDat V c).after 1 t) from rfl, mainDat_after1]
  rw [show (mainDat V c).leavesExact 2 t = owns (c : Thread nD τ) (st1_2 t) fullShare ((mainDat V c).after 2 t) from by
    unfold Dat.leavesExact; rw [live_out t], mainDat_after2]
  by_cases h0 : t.val % 10 = 0
  · have hc2 : ¬k1_cond3 (grid1.coords t) = 1#1 := fun h => by have := (cond3_iff t).mp h; omega
    rw [scrAt_first V c t h0, outAt_first V c t h0]
    by_cases hz : t.val = 0
    · rw [mainDat_phi V c t, phiAt_zero V c _ _ hz, phiA_eq]
      iintro ⟨⟨⟨Hs0, Hs1, HS⟩, Hg⟩, Ho, ⟨%d0, H0⟩, ⟨%d1, H1⟩, ⟨%d2, H2⟩⟩
      iapply (first_triple c Set.univ (grid1.coords t) _ _ _ _ _ _ _ _ ((isFirst_iff t).mpr h0) ((cond2_iff t).mpr h0) hc2 (blockAt V c 0 t) (blockAt V c 1 t) _)
      isplitl [H0]; · iexact H0
      isplitl [H1]; · iexact H1
      isplitl [H2]; · iexists _; iexact H2
      isplitl [HS]; · iexact HS
      iintro ⟨H0, H1, H2, HS⟩
      isplitl [HS Hg Hs0 Hs1]
      · isplitl [HS Hs0 Hs1]
        · isplitl [Hs0]; · iexact Hs0
          isplitl [Hs1]; · iexact Hs1
          iexact HS
        iexact Hg
      isplitl [Ho]; · iexact Ho
      isplitl [H0]; · iexact H0
      isplitl [H1]; · iexact H1
      iexact H2
    · rw [mainDat_phi V c t, phiAt_pos V c _ _ hz]
      iintro ⟨⟨⟨Hs0, Hs1, HS⟩, Hg⟩, Ho, ⟨%d0, H0⟩, ⟨%d1, H1⟩, ⟨%d2, H2⟩⟩
      iapply (first_triple c Set.univ (grid1.coords t) _ _ _ _ _ _ _ _ ((isFirst_iff t).mpr h0) ((cond2_iff t).mpr h0) hc2 (blockAt V c 0 t) (blockAt V c 1 t) _)
      isplitl [H0]; · iexact H0
      isplitl [H1]; · iexact H1
      isplitl [H2]; · iexists _; iexact H2
      isplitl [HS]; · iexists _; iexact HS
      iintro ⟨H0, H1, H2, HS⟩
      isplitl [HS Hg Hs0 Hs1]
      · isplitl [HS Hs0 Hs1]
        · isplitl [Hs0]; · iexact Hs0
          isplitl [Hs1]; · iexact Hs1
          iexact HS
        iexact Hg
      isplitl [Ho]; · iexact Ho
      isplitl [H0]; · iexact H0
      isplitl [H1]; · iexact H1
      iexact H2
  · have hz : t.val ≠ 0 := fun h => h0 (by rw [h])
    rw [mainDat_phi V c t, phiAt_pos V c _ _ hz, scrAt_later V c t h0, outAt_later V c t h0]
    simp only [mainDat_before2 V c t h0]
    iintro ⟨⟨⟨Hs0, Hs1, HS⟩, Hg⟩, Ho, ⟨%d0, H0⟩, ⟨%d1, H1⟩, ⟨%d2, H2⟩⟩
    iapply (later_triple c Set.univ (grid1.coords t) _ _ _ _ _ _ _ _ (fun h => h0 ((isFirst_iff t).mp h)) (fun h => h0 ((cond2_iff t).mp h))
      ((cond3_iff t).mpr (by omega)) (blockAt V c 0 t) (blockAt V c 1 t) _ _ _)
    isplitl [H0]; · iexact H0
    isplitl [H1]; · iexact H1
    isplitl [H2]; · iexact H2
    isplitl [HS]; · iexact HS
    iintro ⟨H0, H1, H2, HS⟩
    isplitl [HS Hg Hs0 Hs1]
    · isplitl [HS Hs0 Hs1]
      · isplitl [Hs0]; · iexact Hs0
        isplitl [Hs1]; · iexact Hs1
        iexact HS
      iexact Hg
    isplitl [Ho]; · iexact Ho
    isplitl [H0]; · iexact H0
    isplitl [H1]; · iexact H1
    iexact H2

/-- The body table's row for this pipeline at point `t`. -/
theorem main_row (t : Fin cfg1.N) :
    defs₀ (F := F) .tc cfg1.body (cfg1.bodyArgs t (cfg1.slots t)) = bodyAt1 t := by
  unfold defs₀; rw [Defs.onTc_tc]

/-- The library's body obligation at every point. -/
theorem main_obligation (c : Dev nD) : BodyObligation (mainDat V c) (defs₀ (F := F)) Variants.none () Set.univ := fun t => by
  rw [bigSep_W1, bigSep_W1, main_row]
  exact triple_restated (main_body V c t) rfl .rfl fun _ => .rfl

/-- What the launch hands the region is the invariant before the first point. -/
theorem main_in (c : Dev nD) : Pipeline.ΦA spec1 c ⊢ (mainDat V c).Φ 0 := by
  rw [show (mainDat V c).Φ 0 = phiAt V c 0 (Nat.zero_le _) from rfl, phiAt_zero V c 0 _ rfl]

/-- After the last point the scratch's contents are forgotten. -/
theorem main_out (c : Dev nD) : (mainDat V c).Φ (Fin.last cfg1.N) ⊢ Pipeline.ΦA spec1 c := by
  rw [show (mainDat V c).Φ (Fin.last cfg1.N) = phiAt V c cfg1.N (Nat.le_refl _) from rfl,
    phiAt_pos V c _ _ (by have : cfg1.N = 20 := N_1; omega), phiA_eq]
  iintro ⟨⟨Hs0, Hs1, HS⟩, Hg⟩
  isplitl [HS Hs0 Hs1]
  · isplitl [Hs0]; · iexact Hs0
    isplitl [Hs1]; · iexact Hs1
    iexists _; iexact HS
  iexact Hg

end Cert.KernelIdeal.Hand

end
-- ==== Proof.WholeRun.lean ====
/-
  THE KERNEL'S RUN: the two pipelines one after the other.

  From any memory with zero counters the program ends, nothing faulting, with its argument unchanged, every counter at zero, and its result at
  what the second pipeline's write-backs leave in it (`finalOut`), the second pipeline having read the table the first one wrote (`midVal`).
-/
module

public import proofs.«01_k».proof.Proof.MainRegion
public import proofs.«01_k».proof.Proof.Gen.KernelIdeal.Regions
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
def startVal (c : Dev nD) : Valuation τ sig (Elt F) := fun b => m (c, b)

/-- Core `c`'s buffers between the two pipelines: the table written. -/
def midVal (c : Dev nD) : Valuation τ sig (Elt F) := Pipeline.afterRegion (tableDat (startVal m) c) (startVal m c)

/-- Core `c`'s buffers at the end. -/
def endVal (c : Dev nD) : Valuation τ sig (Elt F) := Pipeline.afterRegion (mainDat (midVal m) c) (midVal m c)

/-- The two pipelines' proof data: the first from the launch's contents, the second from those with the table written. -/
def bothDats : (p : Fin 2) → (c : Dev nD) → Dat τ (Elt F) Unit ℕ (UR sig nD τ) ℕ (cfgs p) c
  | 0 => tableDat (startVal m)
  | 1 => mainDat (midVal m)

/-- Every TensorCore semaphore has the one index, -/
def lvls : GSem nD τ sig → Finset Unit := fun g => if g.1.2 = .tc then Finset.univ else ∅
/-- at the one level. -/
def lvl0 : GSem nD τ sig → Unit → ℕ := fun _ _ => 0

/-- Nothing is owed, so the levels cut at zero. -/
theorem level_cut (p : Fin 2) :
    Pipeline.LevelCut (pcfgs (F := F)) adm () lvls lvl0 p (fun _ => (0 : CellTallies nD τ sig Unit)) (fun _ => 0) where
  hι _ _ _ := by unfold lvls; rw [if_pos rfl]; exact Finset.mem_univ _
  hιb _ _ _ := Nat.le_refl _
  hD _ _ _ h := absurd h (Nat.lt_irrefl _)

/-- What rides beside the buffers between the pipelines: the generator's register and nothing owed. -/
def beside (c : Dev nD) : sProp 𝕄 :=
  iprop((∃ W, owes (c : Thread nD τ) (0 : CellTallies nD τ sig Unit) W) ∗ (∃ r, prngReg c r) ∗ BI.emp)

set_option backward.isDefEq.respectTransparency.types false in
/-- The first pipeline's record. -/
def tableSeg : RegionSeg (pcfgs (F := F)) adm (bothDats m) () defs₀ Variants.none lvls lvl0 0 :=
  RegionSeg.ofHeldIn (pcfgs (F := F)) adm (bothDats m) () defs₀ Variants.none lvls lvl0 0 (fun _ => 0) (Pipeline.ucRefs τ sig)
    (fun c => iprop(∃ r, prngReg c r)) (fun c => iprop(∃ r, prngReg c r)) launch0.toP rfl
    (fun c => (table_obligation (startVal m) c).loose) (fun _ _ => rfl) (fun _ => rfl)
    (fun c => (tableDat (startVal m) c).share_full fun _ => rfl)
    (fun _ => BI.Entails.refl _) (fun _ => BI.Entails.refl _) (fun _ => 0) (level_cut 0) (fun _ => BI.emp) (startVal m) (fun c w => tableDat_A (startVal m) c w)

set_option backward.isDefEq.respectTransparency.types false in
/-- The second pipeline's record. -/
def mainSeg : RegionSeg (pcfgs (F := F)) adm (bothDats m) () defs₀ Variants.none lvls lvl0 1 :=
  RegionSeg.ofHeldIn (pcfgs (F := F)) adm (bothDats m) () defs₀ Variants.none lvls lvl0 1 (fun _ => 0) (Pipeline.ucRefs τ sig)
    (fun c => iprop(∃ r, prngReg c r)) (fun c => iprop(∃ r, prngReg c r)) launch1.toP rfl
    (fun c => (main_obligation (midVal m) c).loose) (fun _ _ => rfl) (fun _ => rfl)
    (fun c => (mainDat (midVal m) c).share_full fun _ => rfl)
    (fun c => main_in (midVal m) c) (fun c => main_out (midVal m) c) (fun _ => 0) (level_cut 1) (fun _ => BI.emp) (midVal m) (fun c w => mainDat_A (midVal m) c w)

/-- The first pipeline's arrays are unscoped. -/
theorem arrays_unscoped0 : Pipeline.arrRefs (τ := τ) (pcfgs (F := F) 0).spec ⊆ Pipeline.ucRefs τ sig :=
  (by decide : Pipeline.arrRefs (τ := τ) spec0 ⊆ Pipeline.ucRefs τ sig)

/-- The second pipeline's arrays are unscoped. -/
theorem arrays_unscoped1 : Pipeline.arrRefs (τ := τ) (pcfgs (F := F) 1).spec ⊆ Pipeline.ucRefs τ sig :=
  (by decide : Pipeline.arrRefs (τ := τ) spec1 ⊆ Pipeline.ucRefs τ sig)

/-- The first pipeline is entered from the launch's buffers. -/
theorem table_pre (c : Dev nD) :
    iprop(StableHlo.held (c : Thread nD τ) (Pipeline.ucRefs τ sig) (startVal m c) ∗ beside (F := F) c) ⊢ (tableSeg m).pre c := by
  unfold tableSeg
  refine BI.Entails.trans ?_ (RegionSeg.ofHeldIn_pre (arrays_unscoped0 (F := F)) c)
  exact BI.Entails.refl _

/-- It leaves them with the table written. -/
theorem table_post (c : Dev nD) :
    (tableSeg m).post c ⊢ iprop(StableHlo.held (c : Thread nD τ) (Pipeline.ucRefs τ sig) (midVal m c) ∗ beside (F := F) c) := by
  unfold tableSeg
  exact RegionSeg.ofHeldIn_post (arrays_unscoped0 (F := F)) c

/-- The second is entered from there, -/
theorem main_pre (c : Dev nD) :
    iprop(StableHlo.held (c : Thread nD τ) (Pipeline.ucRefs τ sig) (midVal m c) ∗ beside (F := F) c) ⊢ (mainSeg m).pre c := by
  unfold mainSeg
  refine BI.Entails.trans ?_ (RegionSeg.ofHeldIn_pre (arrays_unscoped1 (F := F)) c)
  exact BI.Entails.refl _

/-- and leaves the final buffers. -/
theorem main_post (c : Dev nD) :
    (mainSeg m).post c ⊢ iprop(StableHlo.held (c : Thread nD τ) (Pipeline.ucRefs τ sig) (endVal m c) ∗ beside (F := F) c) := by
  unfold mainSeg
  exact RegionSeg.ofHeldIn_post (arrays_unscoped1 (F := F)) c

/-- The argument ends as it started. -/
theorem endVal_arg (c : Dev nD) : endVal m c main_arg0 = m ((c : Thread nD τ).loc main_arg0) :=
  (Pipeline.afterRegion_keeps (mainDat (midVal m) c) (midVal m c) launch1.win.arr_inj (mainDat_A (midVal m) c) main_arg0 (by decide)).trans
    (Pipeline.afterRegion_keeps (tableDat (startVal m) c) (startVal m c) launch0.win.arr_inj (tableDat_A (startVal m) c) main_arg0 (by decide))

/-- The second pipeline finds the argument as it started. -/
theorem midVal_arg (c : Dev nD) : midVal m c main_arg0 = m ((c : Thread nD τ).loc main_arg0) :=
  Pipeline.afterRegion_keeps (tableDat (startVal m) c) (startVal m c) launch0.win.arr_inj (tableDat_A (startVal m) c) main_arg0 (by decide)

/-- The table the second pipeline finds is what the first one's write-backs leave. -/
theorem midVal_table (c : Dev nD) : midVal m c main_call0_v0 = (tableDat (startVal m) c).arrAt 0 cfg0.N :=
  Pipeline.afterRegion_arr (tableDat (startVal m) c) (startVal m c) launch0.win.arr_inj 0

/-- The result's final contents. -/
def finalOut (c : Dev nD) : Buf (Elt F) ((c : Thread nD τ).loc main_v0) := (mainDat (midVal m) c).arrAt 2 cfg1.N

/-- The result ends at what the second pipeline's write-backs leave. -/
theorem endVal_out (c : Dev nD) : endVal m c main_v0 = finalOut m c :=
  Pipeline.afterRegion_arr (mainDat (midVal m) c) (midVal m c) launch1.win.arr_inj 2

set_option backward.isDefEq.respectTransparency.types false in
/-- The run: the program ends with the result at `finalOut`, the argument unchanged and every counter at zero. -/
theorem whole_run :
    θ_run defs (onTc (τ := τ) (main (F := F))) ⟨m, fun _ => 0, ρ⟩ (fun r => (∀ c : Dev nD,
      r.2.mem ((c.tc : Thread nD τ).loc main_v0) = finalOut m c
      ∧ r.2.mem ((c.tc : Thread nD τ).loc main_arg0) = m ((c.tc : Thread nD τ).loc main_arg0))
      ∧ r.2.sem = fun _ => 0) := by
  refine Pipeline.θ_run_regions_kit_dev_sems (pcfgs (F := F)) adm (bothDats m) () cellOf_inj emb₁ defs₀ Variants.none lvls lvl0 m ρ main
    (fun c => [.region (tableSeg m), .region (mainSeg m)])
    (fun c Q => by rw [main_segs adm (bothDats m) () Variants.none lvls lvl0 (tableSeg m) (mainSeg m) c])
    (fun c => by simp only [Seg.pipes_host, Seg.pipes_region, Seg.pipes_nil]; decide) (O₀ := 0)
    (hL := fun g h => if_neg h) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (startVal m c) ∗ beside (F := F) c))
    (Tₙ := fun c => StableHlo.held (c : Thread nD τ) (Pipeline.ucRefs τ sig) (endVal m c))
    (hch := fun c => ⟨table_pre m c, (table_post m c).trans (main_pre m c), (main_post m c).trans (sep_mono .rfl ?_)⟩)
    (hinit := ?_)
    (QY := fun c s => s.mem ((c.tc : Thread nD τ).loc main_v0) = finalOut m c ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · unfold beside; iintro ⟨Ho, -, -⟩; iexact Ho
  · refine Pipeline.initEach lvls lvl0 fun c => ?_
    rw [show unscopedBufs c (fun b => m ((c.tc : Thread nD τ).loc b)) = StableHlo.held (c : Thread nD τ) (Pipeline.ucRefs τ sig) (startVal m c) from
      Pipeline.unscopedBufs_held c (startVal m c)]
    unfold beside
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (endVal m c) s') $$ [Hh HSI]
    · isplitl [Hh] <;> iassumption
    icases Hr with ⟨%h, HSI⟩
    imodintro
    isplitr
    · ipureintro
      exact ⟨(h (Proc.devRef .tc main_v0) (Finset.mem_filter.mpr ⟨StableHlo.devRef_mem_tcRefs main_v0, by decide⟩)).trans (endVal_out m c),
        (h (Proc.devRef .tc main_arg0) (Finset.mem_filter.mpr ⟨StableHlo.devRef_mem_tcRefs main_arg0, by decide⟩)).trans (endVal_arg m c)⟩
    · iexact HSI

/-- The frame: the argument ends unchanged and every counter at zero. -/
theorem whole_frame :
    θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2, h.2⟩) (whole_run m ρ)

end Cert.KernelIdeal.Hand

end
-- ==== Proof.HashScalar.lean ====
/-
  THE HASH ON ONE WORD.

  The random table is drawn by a counter hash of twenty rounds on two 32-bit words, with key words added after every fourth round. Stated
  here on scalars: one round (`mix`), one key addition (`addKey`), the chain of states from a counter word `n` (`state0` … `state20`), and
  the word that comes out (`hashWord`). The reference's values and the kernel's are both read as these states.
-/
module

public import Idealize.ShloMosaic.PureOps

@[expose] public section

namespace Cert.Hash

open Idealize.ShloMosaic

/-- A word rotated left: its left shift by `l` joined with its right shift by `r`. -/
def turn (l r x : BitVec 32) : BitVec 32 := (x <<< l) ||| (x >>> r)

/-- One round: the first word becomes the sum, the second is rotated and combined with the sum. -/
def mix (l r : BitVec 32) (p : BitVec 32 × BitVec 32) : BitVec 32 × BitVec 32 := (p.1 + p.2, (p.1 + p.2) ^^^ turn l r p.2)

/-- A key addition: `a` to the first word, `b` and the round count `c` to the second. -/
def addKey (a b c : BitVec 32) (p : BitVec 32 × BitVec 32) : BitVec 32 × BitVec 32 := (p.1 + a, p.2 + b + c)

/-- A left shift by less than the width is the plain shift, on every unit. -/
theorem shli_small (u : ArithUnit) (x y : BitVec 32) (h : y.toNat < 32) : IntOp.shli u x y = x <<< y := if_pos h

/-- A right shift by less than the width is the plain shift, on every unit. -/
theorem shrui_small (u : ArithUnit) (x y : BitVec 32) (h : y.toNat < 32) : IntOp.shrui u x y = x >>> y := if_pos h

/-- The printed rotation is `turn`. -/
theorem turn_word (u : ArithUnit) (x l r : BitVec 32) (hl : l.toNat < 32) (hr : r.toNat < 32) :
    IntOp.ori (IntOp.shli u x l) (IntOp.shrui u x r) = turn l r x := by
  rw [shli_small u x l hl, shrui_small u x r hr]; rfl

/-- The start: the counter's words, the upper one zero, with the key's words added. -/
def state0 (n : BitVec 32) : BitVec 32 × BitVec 32 := (0#32, n + 1#32)

/-- Round 1. -/
def state1 (n : BitVec 32) : BitVec 32 × BitVec 32 := mix 13#32 19#32 (state0 n)

/-- Round 2. -/
def state2 (n : BitVec 32) : BitVec 32 × BitVec 32 := mix 15#32 17#32 (state1 n)

/-- Round 3. -/
def state3 (n : BitVec 32) : BitVec 32 × BitVec 32 := mix 26#32 6#32 (state2 n)

/-- Round 4. -/
def state4 (n : BitVec 32) : BitVec 32 × BitVec 32 := mix 6#32 26#32 (state3 n)

/-- Key addition 1. -/
def keyed1 (n : BitVec 32) : BitVec 32 × BitVec 32 := addKey 1#32 466688987#32 1#32 (state4 n)

/-- Round 5. -/
def state5 (n : BitVec 32) : BitVec 32 × BitVec 32 := mix 17#32 15#32 (keyed1 n)

/-- Round 6. -/
def state6 (n : BitVec 32) : BitVec 32 × BitVec 32 := mix 29#32 3#32 (state5 n)

/-- Round 7. -/
def state7 (n : BitVec 32) : BitVec 32 × BitVec 32 := mix 16#32 16#32 (state6 n)

/-- Round 8. -/
def state8 (n : BitVec 32) : BitVec 32 × BitVec 32 := mix 24#32 8#32 (state7 n)

/-- Key addition 2. -/
def keyed2 (n : BitVec 32) : BitVec 32 × BitVec 32 := addKey 466688987#32 0#32 2#32 (state8 n)

/-- Round 9. -/
def state9 (n : BitVec 32) : BitVec 32 × BitVec 32 := mix 13#32 19#32 (keyed2 n)

/-- Round 10. -/
def state10 (n : BitVec 32) : BitVec 32 × BitVec 32 := mix 15#32 17#32 (state9 n)

/-- Round 11. -/
def state11 (n : BitVec 32) : BitVec 32 × BitVec 32 := mix 26#32 6#32 (state10 n)

/-- Round 12. -/
def state12 (n : BitVec 32) : BitVec 32 × BitVec 32 := mix 6#32 26#32 (state11 n)

/-- Key addition 3. -/
def keyed3 (n : BitVec 32) : BitVec 32 × BitVec 32 := addKey 0#32 1#32 3#32 (state12 n)

/-- Round 13. -/
def state13 (n : BitVec 32) : BitVec 32 × BitVec 32 := mix 17#32 15#32 (keyed3 n)

/-- Round 14. -/
def state14 (n : BitVec 32) : BitVec 32 × BitVec 32 := mix 29#32 3#32 (state13 n)

/-- Round 15. -/
def state15 (n : BitVec 32) : BitVec 32 × BitVec 32 := mix 16#32 16#32 (state14 n)

/-- Round 16. -/
def state16 (n : BitVec 32) : BitVec 32 × BitVec 32 := mix 24#32 8#32 (state15 n)

/-- Key addition 4. -/
def keyed4 (n : BitVec 32) : BitVec 32 × BitVec 32 := addKey 1#32 466688987#32 4#32 (state16 n)

/-- Round 17. -/
def state17 (n : BitVec 32) : BitVec 32 × BitVec 32 := mix 13#32 19#32 (keyed4 n)

/-- Round 18. -/
def state18 (n : BitVec 32) : BitVec 32 × BitVec 32 := mix 15#32 17#32 (state17 n)

/-- Round 19. -/
def state19 (n : BitVec 32) : BitVec 32 × BitVec 32 := mix 26#32 6#32 (state18 n)

/-- Round 20. -/
def state20 (n : BitVec 32) : BitVec 32 × BitVec 32 := mix 6#32 26#32 (state19 n)

/-- The last key addition and the two words combined. -/
def hashWord (n : BitVec 32) : BitVec 32 := ((state20 n).1 + 466688987#32) ^^^ ((state20 n).2 + 0#32 + 5#32)

/-- The counter of an element: its position in the [128, 10, 32768] array. -/
def counter (b k c : Nat) : BitVec 32 := BitVec.ofNat 32 (327680 * b + 32768 * k + c)

end Cert.Hash

end
-- ==== Proof.KernelWords.lean ====
/-
  THE KERNEL'S HASH WORDS.

  At grid point (i, k) the first kernel hashes, at row r and column c of its block, the counter of element (64 i + r, k, c). Its payloads,
  read at an index, are the states of Proof/HashScalar.lean, and the word under the last one is `hashWord` of that counter.
-/
module

public import proofs.«01_k».proof.Proof.TableRegion
public import proofs.«01_k».proof.Proof.HashScalar

@[expose] public section

noncomputable section

namespace Cert.KernelIdeal.Hand

open Cert.KernelIdeal Cert.KernelIdeal.Gen Cert.Hash
open Idealize.ShloMosaic

variable {F : FTy → Type} [FloatOps F]

/-- The counter of row `j 0` and column `j 1` of the block at grid point `i`. -/
abbrev at2 (i : grid0.Coords) (j : S64x32768.Idx) : BitVec 32 := counter (64 * (i 0).val + (j 0).val) (i 1).val (j 1).val

/-- The second word at the start: the counter plus one. -/
theorem k_start (i : grid0.Coords) (j : S64x32768.Idx) : k0_pay2 i j = (state0 (at2 i j)).2 := by
  have e : k0_pay2 i j = ((BitVec.ofNat 32 (0 * 64 + (j 0).val) + 64#32 * BitVec.ofNat 32 (i 0).val) * 10#32
      + BitVec.ofNat 32 (i 1).val) * 32768#32 + BitVec.ofNat 32 (0 * 32768 + (j 1).val) + 1#32 := rfl
  rw [e]
  simp only [← BitVec.ofNat_mul, ← BitVec.ofNat_add]
  show _ = counter _ _ _ + 1#32
  unfold counter
  rw [← BitVec.ofNat_add]
  congr 1
  omega

/-- Round 1, first word. -/
theorem k_pay3 (i : grid0.Coords) (j : S64x32768.Idx) : k0_pay3 i j = (state1 (at2 i j)).1 := by
  have e : k0_pay3 i j = IntOp.addi 0#32 (k0_pay2 i j) := rfl
  rw [e, k_start]; rfl

/-- Round 1, second word. -/
theorem k_pay4 (i : grid0.Coords) (j : S64x32768.Idx) : k0_pay4 i j = (state1 (at2 i j)).2 := by
  have e : k0_pay4 i j = IntOp.xori (k0_pay3 i j) (IntOp.ori (IntOp.shli .vector (k0_pay2 i j) 13#32) (IntOp.shrui .vector (k0_pay2 i j) 19#32)) := rfl
  rw [e, k_pay3, k_start, turn_word _ _ _ _ (by decide) (by decide)]; rfl

/-- Round 2, first word. -/
theorem k_pay5 (i : grid0.Coords) (j : S64x32768.Idx) : k0_pay5 i j = (state2 (at2 i j)).1 := by
  have e : k0_pay5 i j = IntOp.addi (k0_pay3 i j) (k0_pay4 i j) := rfl
  rw [e, k_pay3, k_pay4]; rfl

/-- Round 2, second word. -/
theorem k_pay6 (i : grid0.Coords) (j : S64x32768.Idx) : k0_pay6 i j = (state2 (at2 i j)).2 := by
  have e : k0_pay6 i j = IntOp.xori (k0_pay5 i j) (IntOp.ori (IntOp.shli .vector (k0_pay4 i j) 15#32) (IntOp.shrui .vector (k0_pay4 i j) 17#32)) := rfl
  rw [e, k_pay5, k_pay4, turn_word _ _ _ _ (by decide) (by decide)]; rfl

/-- Round 3, first word. -/
theorem k_pay7 (i : grid0.Coords) (j : S64x32768.Idx) : k0_pay7 i j = (state3 (at2 i j)).1 := by
  have e : k0_pay7 i j = IntOp.addi (k0_pay5 i j) (k0_pay6 i j) := rfl
  rw [e, k_pay5, k_pay6]; rfl

/-- Round 3, second word. -/
theorem k_pay8 (i : grid0.Coords) (j : S64x32768.Idx) : k0_pay8 i j = (state3 (at2 i j)).2 := by
  have e : k0_pay8 i j = IntOp.xori (k0_pay7 i j) (IntOp.ori (IntOp.shli .vector (k0_pay6 i j) 26#32) (IntOp.shrui .vector (k0_pay6 i j) 6#32)) := rfl
  rw [e, k_pay7, k_pay6, turn_word _ _ _ _ (by decide) (by decide)]; rfl

/-- Round 4, first word. -/
theorem k_pay9 (i : grid0.Coords) (j : S64x32768.Idx) : k0_pay9 i j = (state4 (at2 i j)).1 := by
  have e : k0_pay9 i j = IntOp.addi (k0_pay7 i j) (k0_pay8 i j) := rfl
  rw [e, k_pay7, k_pay8]; rfl

/-- Round 4, second word. -/
theorem k_pay10 (i : grid0.Coords) (j : S64x32768.Idx) : k0_pay10 i j = (state4 (at2 i j)).2 := by
  have e : k0_pay10 i j = IntOp.xori (k0_pay9 i j) (IntOp.ori (IntOp.shli .vector (k0_pay8 i j) 6#32) (IntOp.shrui .vector (k0_pay8 i j) 26#32)) := rfl
  rw [e, k_pay9, k_pay8, turn_word _ _ _ _ (by decide) (by decide)]; rfl

/-- Key addition 1, second word. -/
theorem k_pay12 (n : BitVec 32) (v36 v42 v43 : IVec S64x32768 32) (j : S64x32768.Idx) (h36 : v36 j = (state4 n).1) (h42 : v42 j = (state4 n).2) (h43 : v43 j = 1#32) : k0_pay12 v42 j = (keyed1 n).2 := by
  have e : k0_pay12 v42 j = IntOp.addi (IntOp.addi (v42 j) 466688987#32) 1#32 := rfl
  rw [e, h42]; rfl

/-- Round 5, first word. -/
theorem k_pay13 (n : BitVec 32) (v36 v42 v43 : IVec S64x32768 32) (j : S64x32768.Idx) (h36 : v36 j = (state4 n).1) (h42 : v42 j = (state4 n).2) (h43 : v43 j = 1#32) : k0_pay13 v36 v42 v43 j = (state5 n).1 := by
  have e : k0_pay13 v36 v42 v43 j = IntOp.addi (IntOp.addi (v36 j) (v43 j)) (k0_pay12 v42 j) := rfl
  rw [e, h36, h43, k_pay12 n v36 v42 v43 j h36 h42 h43]; rfl

/-- Round 5, second word. -/
theorem k_pay14 (n : BitVec 32) (v36 v42 v43 : IVec S64x32768 32) (j : S64x32768.Idx) (h36 : v36 j = (state4 n).1) (h42 : v42 j = (state4 n).2) (h43 : v43 j = 1#32) : k0_pay14 v36 v42 v43 j = (state5 n).2 := by
  have e : k0_pay14 v36 v42 v43 j = IntOp.xori (k0_pay13 v36 v42 v43 j) (IntOp.ori (IntOp.shli .vector (k0_pay12 v42 j) 17#32) (IntOp.shrui .vector (k0_pay12 v42 j) 15#32)) := rfl
  rw [e, k_pay13 n v36 v42 v43 j h36 h42 h43, k_pay12 n v36 v42 v43 j h36 h42 h43, turn_word _ _ _ _ (by decide) (by decide)]; rfl

/-- Round 6, first word. -/
theorem k_pay15 (n : BitVec 32) (v36 v42 v43 : IVec S64x32768 32) (j : S64x32768.Idx) (h36 : v36 j = (state4 n).1) (h42 : v42 j = (state4 n).2) (h43 : v43 j = 1#32) : k0_pay15 v36 v42 v43 j = (state6 n).1 := by
  have e : k0_pay15 v36 v42 v43 j = IntOp.addi (k0_pay13 v36 v42 v43 j) (k0_pay14 v36 v42 v43 j) := rfl
  rw [e, k_pay13 n v36 v42 v43 j h36 h42 h43, k_pay14 n v36 v42 v43 j h36 h42 h43]; rfl

/-- Round 6, second word. -/
theorem k_pay16 (n : BitVec 32) (v36 v42 v43 : IVec S64x32768 32) (j : S64x32768.Idx) (h36 : v36 j = (state4 n).1) (h42 : v42 j = (state4 n).2) (h43 : v43 j = 1#32) : k0_pay16 v36 v42 v43 j = (state6 n).2 := by
  have e : k0_pay16 v36 v42 v43 j = IntOp.xori (k0_pay15 v36 v42 v43 j) (IntOp.ori (IntOp.shli .vector (k0_pay14 v36 v42 v43 j) 29#32) (IntOp.shrui .vector (k0_pay14 v36 v42 v43 j) 3#32)) := rfl
  rw [e, k_pay15 n v36 v42 v43 j h36 h42 h43, k_pay14 n v36 v42 v43 j h36 h42 h43, turn_word _ _ _ _ (by decide) (by decide)]; rfl

/-- Round 7, first word. -/
theorem k_pay17 (n : BitVec 32) (v36 v42 v43 : IVec S64x32768 32) (j : S64x32768.Idx) (h36 : v36 j = (state4 n).1) (h42 : v42 j = (state4 n).2) (h43 : v43 j = 1#32) : k0_pay17 v36 v42 v43 j = (state7 n).1 := by
  have e : k0_pay17 v36 v42 v43 j = IntOp.addi (k0_pay15 v36 v42 v43 j) (k0_pay16 v36 v42 v43 j) := rfl
  rw [e, k_pay15 n v36 v42 v43 j h36 h42 h43, k_pay16 n v36 v42 v43 j h36 h42 h43]; rfl

/-- Round 7, second word. -/
theorem k_pay18 (n : BitVec 32) (v36 v42 v43 : IVec S64x32768 32) (j : S64x32768.Idx) (h36 : v36 j = (state4 n).1) (h42 : v42 j = (state4 n).2) (h43 : v43 j = 1#32) : k0_pay18 v36 v42 v43 j = (state7 n).2 := by
  have e : k0_pay18 v36 v42 v43 j = IntOp.xori (k0_pay17 v36 v42 v43 j) (IntOp.ori (IntOp.shli .vector (k0_pay16 v36 v42 v43 j) 16#32) (IntOp.shrui .vector (k0_pay16 v36 v42 v43 j) 16#32)) := rfl
  rw [e, k_pay17 n v36 v42 v43 j h36 h42 h43, k_pay16 n v36 v42 v43 j h36 h42 h43, turn_word _ _ _ _ (by decide) (by decide)]; rfl

/-- Round 8, first word. -/
theorem k_pay19 (n : BitVec 32) (v36 v42 v43 : IVec S64x32768 32) (j : S64x32768.Idx) (h36 : v36 j = (state4 n).1) (h42 : v42 j = (state4 n).2) (h43 : v43 j = 1#32) : k0_pay19 v36 v42 v43 j = (state8 n).1 := by
  have e : k0_pay19 v36 v42 v43 j = IntOp.addi (k0_pay17 v36 v42 v43 j) (k0_pay18 v36 v42 v43 j) := rfl
  rw [e, k_pay17 n v36 v42 v43 j h36 h42 h43, k_pay18 n v36 v42 v43 j h36 h42 h43]; rfl

/-- Key addition 2, second word. -/
theorem k_pay20 (n : BitVec 32) (v36 v42 v43 : IVec S64x32768 32) (j : S64x32768.Idx) (h36 : v36 j = (state4 n).1) (h42 : v42 j = (state4 n).2) (h43 : v43 j = 1#32) : k0_pay20 v36 v42 v43 j = (keyed2 n).2 := by
  have e : k0_pay20 v36 v42 v43 j = IntOp.addi (IntOp.addi (IntOp.xori (k0_pay19 v36 v42 v43 j) (IntOp.ori (IntOp.shli .vector (k0_pay18 v36 v42 v43 j) 24#32) (IntOp.shrui .vector (k0_pay18 v36 v42 v43 j) 8#32))) 0#32) 2#32 := rfl
  rw [e, k_pay19 n v36 v42 v43 j h36 h42 h43, k_pay18 n v36 v42 v43 j h36 h42 h43, turn_word _ _ _ _ (by decide) (by decide)]; rfl

/-- Round 9, first word. -/
theorem k_pay21 (n : BitVec 32) (v36 v42 v43 : IVec S64x32768 32) (j : S64x32768.Idx) (h36 : v36 j = (state4 n).1) (h42 : v42 j = (state4 n).2) (h43 : v43 j = 1#32) : k0_pay21 v36 v42 v43 j = (state9 n).1 := by
  have e : k0_pay21 v36 v42 v43 j = IntOp.addi (IntOp.addi (k0_pay19 v36 v42 v43 j) 466688987#32) (k0_pay20 v36 v42 v43 j) := rfl
  rw [e, k_pay19 n v36 v42 v43 j h36 h42 h43, k_pay20 n v36 v42 v43 j h36 h42 h43]; rfl

/-- Round 9, the rotated word. -/
theorem k_pay22 (n : BitVec 32) (v36 v42 v43 : IVec S64x32768 32) (j : S64x32768.Idx) (h36 : v36 j = (state4 n).1) (h42 : v42 j = (state4 n).2) (h43 : v43 j = 1#32) : k0_pay22 v36 v42 v43 j = turn 13#32 19#32 (keyed2 n).2 := by
  have e : k0_pay22 v36 v42 v43 j = IntOp.ori (IntOp.shli .vector (k0_pay20 v36 v42 v43 j) 13#32) (IntOp.shrui .vector (k0_pay20 v36 v42 v43 j) 19#32) := rfl
  rw [e, k_pay20 n v36 v42 v43 j h36 h42 h43, turn_word _ _ _ _ (by decide) (by decide)]

/-- Round 9, second word. -/
theorem k_pay23 (n : BitVec 32) (v83 v88 : IVec S64x32768 32) (j : S64x32768.Idx) (h83 : v83 j = (state9 n).1) (h88 : v88 j = turn 13#32 19#32 (keyed2 n).2) : k0_pay23 v83 v88 j = (state9 n).2 := by
  have e : k0_pay23 v83 v88 j = IntOp.xori (v83 j) (v88 j) := rfl
  rw [e, h83, h88]; rfl

/-- Round 10, first word. -/
theorem k_pay24 (n : BitVec 32) (v83 v88 : IVec S64x32768 32) (j : S64x32768.Idx) (h83 : v83 j = (state9 n).1) (h88 : v88 j = turn 13#32 19#32 (keyed2 n).2) : k0_pay24 v83 v88 j = (state10 n).1 := by
  have e : k0_pay24 v83 v88 j = IntOp.addi (v83 j) (k0_pay23 v83 v88 j) := rfl
  rw [e, h83, k_pay23 n v83 v88 j h83 h88]; rfl

/-- Round 10, second word. -/
theorem k_pay25 (n : BitVec 32) (v83 v88 : IVec S64x32768 32) (j : S64x32768.Idx) (h83 : v83 j = (state9 n).1) (h88 : v88 j = turn 13#32 19#32 (keyed2 n).2) : k0_pay25 v83 v88 j = (state10 n).2 := by
  have e : k0_pay25 v83 v88 j = IntOp.xori (k0_pay24 v83 v88 j) (IntOp.ori (IntOp.shli .vector (k0_pay23 v83 v88 j) 15#32) (IntOp.shrui .vector (k0_pay23 v83 v88 j) 17#32)) := rfl
  rw [e, k_pay24 n v83 v88 j h83 h88, k_pay23 n v83 v88 j h83 h88, turn_word _ _ _ _ (by decide) (by decide)]; rfl

/-- Round 11, first word. -/
theorem k_pay26 (n : BitVec 32) (v83 v88 : IVec S64x32768 32) (j : S64x32768.Idx) (h83 : v83 j = (state9 n).1) (h88 : v88 j = turn 13#32 19#32 (keyed2 n).2) : k0_pay26 v83 v88 j = (state11 n).1 := by
  have e : k0_pay26 v83 v88 j = IntOp.addi (k0_pay24 v83 v88 j) (k0_pay25 v83 v88 j) := rfl
  rw [e, k_pay24 n v83 v88 j h83 h88, k_pay25 n v83 v88 j h83 h88]; rfl

/-- Round 11, second word. -/
theorem k_pay27 (n : BitVec 32) (v83 v88 : IVec S64x32768 32) (j : S64x32768.Idx) (h83 : v83 j = (state9 n).1) (h88 : v88 j = turn 13#32 19#32 (keyed2 n).2) : k0_pay27 v83 v88 j = (state11 n).2 := by
  have e : k0_pay27 v83 v88 j = IntOp.xori (k0_pay26 v83 v88 j) (IntOp.ori (IntOp.shli .vector (k0_pay25 v83 v88 j) 26#32) (IntOp.shrui .vector (k0_pay25 v83 v88 j) 6#32)) := rfl
  rw [e, k_pay26 n v83 v88 j h83 h88, k_pay25 n v83 v88 j h83 h88, turn_word _ _ _ _ (by decide) (by decide)]; rfl

/-- Round 12, first word. -/
theorem k_pay28 (n : BitVec 32) (v83 v88 : IVec S64x32768 32) (j : S64x32768.Idx) (h83 : v83 j = (state9 n).1) (h88 : v88 j = turn 13#32 19#32 (keyed2 n).2) : k0_pay28 v83 v88 j = (state12 n).1 := by
  have e : k0_pay28 v83 v88 j = IntOp.addi (k0_pay26 v83 v88 j) (k0_pay27 v83 v88 j) := rfl
  rw [e, k_pay26 n v83 v88 j h83 h88, k_pay27 n v83 v88 j h83 h88]; rfl

/-- Key addition 3, second word. -/
theorem k_pay29 (n : BitVec 32) (v83 v88 : IVec S64x32768 32) (j : S64x32768.Idx) (h83 : v83 j = (state9 n).1) (h88 : v88 j = turn 13#32 19#32 (keyed2 n).2) : k0_pay29 v83 v88 j = (keyed3 n).2 := by
  have e : k0_pay29 v83 v88 j = IntOp.addi (IntOp.addi (IntOp.xori (k0_pay28 v83 v88 j) (IntOp.ori (IntOp.shli .vector (k0_pay27 v83 v88 j) 6#32) (IntOp.shrui .vector (k0_pay27 v83 v88 j) 26#32))) 1#32) 3#32 := rfl
  rw [e, k_pay28 n v83 v88 j h83 h88, k_pay27 n v83 v88 j h83 h88, turn_word _ _ _ _ (by decide) (by decide)]; rfl

/-- Round 13, first word. -/
theorem k_pay30 (n : BitVec 32) (v83 v88 : IVec S64x32768 32) (j : S64x32768.Idx) (h83 : v83 j = (state9 n).1) (h88 : v88 j = turn 13#32 19#32 (keyed2 n).2) : k0_pay30 v83 v88 j = (state13 n).1 := by
  have e : k0_pay30 v83 v88 j = IntOp.addi (IntOp.addi (k0_pay28 v83 v88 j) 0#32) (k0_pay29 v83 v88 j) := rfl
  rw [e, k_pay28 n v83 v88 j h83 h88, k_pay29 n v83 v88 j h83 h88]; rfl

/-- Round 13, second word. -/
theorem k_pay31 (n : BitVec 32) (v83 v88 : IVec S64x32768 32) (j : S64x32768.Idx) (h83 : v83 j = (state9 n).1) (h88 : v88 j = turn 13#32 19#32 (keyed2 n).2) : k0_pay31 v83 v88 j = (state13 n).2 := by
  have e : k0_pay31 v83 v88 j = IntOp.xori (k0_pay30 v83 v88 j) (IntOp.ori (IntOp.shli .vector (k0_pay29 v83 v88 j) 17#32) (IntOp.shrui .vector (k0_pay29 v83 v88 j) 15#32)) := rfl
  rw [e, k_pay30 n v83 v88 j h83 h88, k_pay29 n v83 v88 j h83 h88, turn_word _ _ _ _ (by decide) (by decide)]; rfl

/-- Round 14, first word. -/
theorem k_pay32 (n : BitVec 32) (v83 v88 : IVec S64x32768 32) (j : S64x32768.Idx) (h83 : v83 j = (state9 n).1) (h88 : v88 j = turn 13#32 19#32 (keyed2 n).2) : k0_pay32 v83 v88 j = (state14 n).1 := by
  have e : k0_pay32 v83 v88 j = IntOp.addi (k0_pay30 v83 v88 j) (k0_pay31 v83 v88 j) := rfl
  rw [e, k_pay30 n v83 v88 j h83 h88, k_pay31 n v83 v88 j h83 h88]; rfl

/-- Round 14, second word. -/
theorem k_pay33 (n : BitVec 32) (v83 v88 : IVec S64x32768 32) (j : S64x32768.Idx) (h83 : v83 j = (state9 n).1) (h88 : v88 j = turn 13#32 19#32 (keyed2 n).2) : k0_pay33 v83 v88 j = (state14 n).2 := by
  have e : k0_pay33 v83 v88 j = IntOp.xori (k0_pay32 v83 v88 j) (IntOp.ori (IntOp.shli .vector (k0_pay31 v83 v88 j) 29#32) (IntOp.shrui .vector (k0_pay31 v83 v88 j) 3#32)) := rfl
  rw [e, k_pay32 n v83 v88 j h83 h88, k_pay31 n v83 v88 j h83 h88, turn_word _ _ _ _ (by decide) (by decide)]; rfl

/-- Round 15, first word. -/
theorem k_pay34 (n : BitVec 32) (v83 v88 : IVec S64x32768 32) (j : S64x32768.Idx) (h83 : v83 j = (state9 n).1) (h88 : v88 j = turn 13#32 19#32 (keyed2 n).2) : k0_pay34 v83 v88 j = (state15 n).1 := by
  have e : k0_pay34 v83 v88 j = IntOp.addi (k0_pay32 v83 v88 j) (k0_pay33 v83 v88 j) := rfl
  rw [e, k_pay32 n v83 v88 j h83 h88, k_pay33 n v83 v88 j h83 h88]; rfl

/-- Round 15, the left shift of the second word. -/
theorem k_pay35 (n : BitVec 32) (v83 v88 : IVec S64x32768 32) (j : S64x32768.Idx) (h83 : v83 j = (state9 n).1) (h88 : v88 j = turn 13#32 19#32 (keyed2 n).2) : k0_pay35 v83 v88 j = (state14 n).2 <<< 16#32 := by
  have e : k0_pay35 v83 v88 j = IntOp.shli .vector (k0_pay33 v83 v88 j) 16#32 := rfl
  rw [e, k_pay33 n v83 v88 j h83 h88, shli_small _ _ _ (by decide)]

/-- Round 15, second word. -/
theorem k_pay36 (n : BitVec 32) (v130 v131 v133 : IVec S64x32768 32) (j : S64x32768.Idx) (h130 : v130 j = (state14 n).2) (h131 : v131 j = (state15 n).1) (h133 : v133 j = (state14 n).2 <<< 16#32) : k0_pay36 v130 v131 v133 16#32 j = (state15 n).2 := by
  have e : k0_pay36 v130 v131 v133 16#32 j = IntOp.xori (v131 j) (IntOp.ori (v133 j) (IntOp.shrui .vector (v130 j) 16#32)) := rfl
  rw [e, h131, h133, h130, shrui_small _ _ _ (by decide)]; rfl

/-- Round 16, first word. -/
theorem k_pay37 (n : BitVec 32) (v130 v131 v133 : IVec S64x32768 32) (j : S64x32768.Idx) (h130 : v130 j = (state14 n).2) (h131 : v131 j = (state15 n).1) (h133 : v133 j = (state14 n).2 <<< 16#32) : k0_pay37 v130 v131 v133 16#32 j = (state16 n).1 := by
  have e : k0_pay37 v130 v131 v133 16#32 j = IntOp.addi (v131 j) (k0_pay36 v130 v131 v133 16#32 j) := rfl
  rw [e, h131, k_pay36 n v130 v131 v133 j h130 h131 h133]; rfl

/-- Key addition 4, second word. -/
theorem k_pay38 (n : BitVec 32) (v130 v131 v133 : IVec S64x32768 32) (j : S64x32768.Idx) (h130 : v130 j = (state14 n).2) (h131 : v131 j = (state15 n).1) (h133 : v133 j = (state14 n).2 <<< 16#32) : k0_pay38 v130 v131 v133 16#32 j = (keyed4 n).2 := by
  have e : k0_pay38 v130 v131 v133 16#32 j = IntOp.addi (IntOp.addi (IntOp.xori (k0_pay37 v130 v131 v133 16#32 j) (IntOp.ori (IntOp.shli .vector (k0_pay36 v130 v131 v133 16#32 j) 24#32) (IntOp.shrui .vector (k0_pay36 v130 v131 v133 16#32 j) 8#32))) 466688987#32) 4#32 := rfl
  rw [e, k_pay37 n v130 v131 v133 j h130 h131 h133, k_pay36 n v130 v131 v133 j h130 h131 h133, turn_word _ _ _ _ (by decide) (by decide)]; rfl

/-- Round 17, first word. -/
theorem k_pay39 (n : BitVec 32) (v130 v131 v133 : IVec S64x32768 32) (j : S64x32768.Idx) (h130 : v130 j = (state14 n).2) (h131 : v131 j = (state15 n).1) (h133 : v133 j = (state14 n).2 <<< 16#32) : k0_pay39 v130 v131 v133 16#32 j = (state17 n).1 := by
  have e : k0_pay39 v130 v131 v133 16#32 j = IntOp.addi (IntOp.addi (k0_pay37 v130 v131 v133 16#32 j) 1#32) (k0_pay38 v130 v131 v133 16#32 j) := rfl
  rw [e, k_pay37 n v130 v131 v133 j h130 h131 h133, k_pay38 n v130 v131 v133 j h130 h131 h133]; rfl

/-- Round 17, second word. -/
theorem k_pay40 (n : BitVec 32) (v130 v131 v133 : IVec S64x32768 32) (j : S64x32768.Idx) (h130 : v130 j = (state14 n).2) (h131 : v131 j = (state15 n).1) (h133 : v133 j = (state14 n).2 <<< 16#32) : k0_pay40 v130 v131 v133 16#32 j = (state17 n).2 := by
  have e : k0_pay40 v130 v131 v133 16#32 j = IntOp.xori (k0_pay39 v130 v131 v133 16#32 j) (IntOp.ori (IntOp.shli .vector (k0_pay38 v130 v131 v133 16#32 j) 13#32) (IntOp.shrui .vector (k0_pay38 v130 v131 v133 16#32 j) 19#32)) := rfl
  rw [e, k_pay39 n v130 v131 v133 j h130 h131 h133, k_pay38 n v130 v131 v133 j h130 h131 h133, turn_word _ _ _ _ (by decide) (by decide)]; rfl

/-- Round 18, first word. -/
theorem k_pay41 (n : BitVec 32) (v130 v131 v133 : IVec S64x32768 32) (j : S64x32768.Idx) (h130 : v130 j = (state14 n).2) (h131 : v131 j = (state15 n).1) (h133 : v133 j = (state14 n).2 <<< 16#32) : k0_pay41 v130 v131 v133 16#32 j = (state18 n).1 := by
  have e : k0_pay41 v130 v131 v133 16#32 j = IntOp.addi (k0_pay39 v130 v131 v133 16#32 j) (k0_pay40 v130 v131 v133 16#32 j) := rfl
  rw [e, k_pay39 n v130 v131 v133 j h130 h131 h133, k_pay40 n v130 v131 v133 j h130 h131 h133]; rfl

/-- Round 18, second word. -/
theorem k_pay42 (n : BitVec 32) (v130 v131 v133 : IVec S64x32768 32) (j : S64x32768.Idx) (h130 : v130 j = (state14 n).2) (h131 : v131 j = (state15 n).1) (h133 : v133 j = (state14 n).2 <<< 16#32) : k0_pay42 v130 v131 v133 16#32 j = (state18 n).2 := by
  have e : k0_pay42 v130 v131 v133 16#32 j = IntOp.xori (k0_pay41 v130 v131 v133 16#32 j) (IntOp.ori (IntOp.shli .vector (k0_pay40 v130 v131 v133 16#32 j) 15#32) (IntOp.shrui .vector (k0_pay40 v130 v131 v133 16#32 j) 17#32)) := rfl
  rw [e, k_pay41 n v130 v131 v133 j h130 h131 h133, k_pay40 n v130 v131 v133 j h130 h131 h133, turn_word _ _ _ _ (by decide) (by decide)]; rfl

/-- Round 19, first word. -/
theorem k_pay43 (n : BitVec 32) (v130 v131 v133 : IVec S64x32768 32) (j : S64x32768.Idx) (h130 : v130 j = (state14 n).2) (h131 : v131 j = (state15 n).1) (h133 : v133 j = (state14 n).2 <<< 16#32) : k0_pay43 v130 v131 v133 16#32 j = (state19 n).1 := by
  have e : k0_pay43 v130 v131 v133 16#32 j = IntOp.addi (k0_pay41 v130 v131 v133 16#32 j) (k0_pay42 v130 v131 v133 16#32 j) := rfl
  rw [e, k_pay41 n v130 v131 v133 j h130 h131 h133, k_pay42 n v130 v131 v133 j h130 h131 h133]; rfl

/-- Round 19, second word. -/
theorem k_pay44 (n : BitVec 32) (v130 v131 v133 : IVec S64x32768 32) (j : S64x32768.Idx) (h130 : v130 j = (state14 n).2) (h131 : v131 j = (state15 n).1) (h133 : v133 j = (state14 n).2 <<< 16#32) : k0_pay44 v130 v131 v133 16#32 j = (state19 n).2 := by
  have e : k0_pay44 v130 v131 v133 16#32 j = IntOp.xori (k0_pay43 v130 v131 v133 16#32 j) (IntOp.ori (IntOp.shli .vector (k0_pay42 v130 v131 v133 16#32 j) 26#32) (IntOp.shrui .vector (k0_pay42 v130 v131 v133 16#32 j) 6#32)) := rfl
  rw [e, k_pay43 n v130 v131 v133 j h130 h131 h133, k_pay42 n v130 v131 v133 j h130 h131 h133, turn_word _ _ _ _ (by decide) (by decide)]; rfl

/-- Round 20, first word. -/
theorem k_pay45 (n : BitVec 32) (v130 v131 v133 : IVec S64x32768 32) (j : S64x32768.Idx) (h130 : v130 j = (state14 n).2) (h131 : v131 j = (state15 n).1) (h133 : v133 j = (state14 n).2 <<< 16#32) : k0_pay45 v130 v131 v133 16#32 j = (state20 n).1 := by
  have e : k0_pay45 v130 v131 v133 16#32 j = IntOp.addi (k0_pay43 v130 v131 v133 16#32 j) (k0_pay44 v130 v131 v133 16#32 j) := rfl
  rw [e, k_pay43 n v130 v131 v133 j h130 h131 h133, k_pay44 n v130 v131 v133 j h130 h131 h133]; rfl

/-- Round 20, second word. -/
theorem k_pay46 (n : BitVec 32) (v130 v131 v133 : IVec S64x32768 32) (j : S64x32768.Idx) (h130 : v130 j = (state14 n).2) (h131 : v131 j = (state15 n).1) (h133 : v133 j = (state14 n).2 <<< 16#32) : k0_pay46 v130 v131 v133 16#32 j = (state20 n).2 := by
  have e : k0_pay46 v130 v131 v133 16#32 j = IntOp.xori (k0_pay45 v130 v131 v133 16#32 j) (IntOp.ori (IntOp.shli .vector (k0_pay44 v130 v131 v133 16#32 j) 6#32) (IntOp.shrui .vector (k0_pay44 v130 v131 v133 16#32 j) 26#32)) := rfl
  rw [e, k_pay45 n v130 v131 v133 j h130 h131 h133, k_pay44 n v130 v131 v133 j h130 h131 h133, turn_word _ _ _ _ (by decide) (by decide)]; rfl

/-- The word under the last payload of the block at grid point `i`: the hash of the counter. -/
theorem k_hash (i : grid0.Coords) (j : S64x32768.Idx) :
    IntOp.xori (IntOp.addi (k0_pay45 (late130 i) (late131 i) (late133 i) 16#32 j) (k0_pay47 j))
      (IntOp.addi (IntOp.addi (k0_pay46 (late130 i) (late131 i) (late133 i) 16#32 j) 0#32) 5#32) = hashWord (at2 i j) := by
  have h36 : early36 i j = (state4 (at2 i j)).1 := k_pay9 i j
  have h42 : early42 i j = (state4 (at2 i j)).2 := k_pay10 i j
  have h83 : mid83 i j = (state9 (at2 i j)).1 := k_pay21 _ _ _ _ j h36 h42 rfl
  have h88 : mid88 i j = turn 13#32 19#32 (keyed2 (at2 i j)).2 := k_pay22 _ _ _ _ j h36 h42 rfl
  have h130 : late130 i j = (state14 (at2 i j)).2 := k_pay33 _ _ _ j h83 h88
  have h131 : late131 i j = (state15 (at2 i j)).1 := k_pay34 _ _ _ j h83 h88
  have h133 : late133 i j = (state14 (at2 i j)).2 <<< 16#32 := k_pay35 _ _ _ j h83 h88
  rw [k_pay45 _ _ _ _ j h130 h131 h133, k_pay46 _ _ _ _ j h130 h131 h133]
  rfl

end Cert.KernelIdeal.Hand

end

end
-- ==== Proof.Noise.lean ====
/-
  THE NOISE OF ONE ELEMENT.

  Stated here at the extended reals, on scalars: the constants that the two programs spell as bit patterns; the float whose bits are 23
  random bits under the exponent of one, which lies in [1, 2); the uniform draw made of it, a real strictly between 0 and 1; and minus its
  logarithm, a positive real `wait`, from which both the reference's noise and the kernel's factor are computed.
-/
module

public import Idealize.ShloMosaic.PureOps
public import Idealize.ShloMosaic.PureOps.Ideal.Laws
public import Idealize.ShloMosaic.Lib.IdealHost
public import Mathlib.Analysis.SpecialFunctions.Log.Basic
public import proofs.«01_k».proof.Proof.HashScalar

@[expose] public section

noncomputable section

namespace Cert.Hash

open Idealize.ShloMosaic

/-- The pattern of two. -/
theorem bits_two : Ideal.ofBits .f32 0x40000000#32 = ((2 : ℝ) : EReal) := by
  simp [Ideal.ofBits, Ideal.ieee, -EReal.coe_mul]; norm_num

/-- The pattern of one half. -/
theorem bits_half : Ideal.ofBits .f32 0x3F000000#32 = ((1 / 2 : ℝ) : EReal) := by
  simp [Ideal.ofBits, Ideal.ieee, -EReal.coe_mul]; norm_num

/-- The pattern of thirty-four. -/
theorem bits_34 : Ideal.ofBits .f32 0x42080000#32 = ((34 : ℝ) : EReal) := by
  simp [Ideal.ofBits, Ideal.ieee, -EReal.coe_mul]; norm_num

/-- The pattern of minus infinity. -/
theorem bits_bot : Ideal.ofBits .f32 0xFF800000#32 = ⊥ := by simp [Ideal.ofBits, Ideal.ieee]

/-- The pattern of plus infinity. -/
theorem bits_top : Ideal.ofBits .f32 0x7F800000#32 = ⊤ := by simp [Ideal.ofBits, Ideal.ieee]

/-- The least positive normal float. -/
def tiny : ℝ := (2 : ℝ) ^ (-126 : ℤ)

/-- The pattern of the least positive normal float. -/
theorem bits_tiny : Ideal.ofBits .f32 0x00800000#32 = (tiny : EReal) := by
  unfold tiny
  simp [Ideal.ofBits, Ideal.ieee, -EReal.coe_mul]; norm_num

/-- The word of a float in [1, 2): the hash's upper 23 bits under the exponent of one. -/
def unitWord (b : BitVec 32) : BitVec 32 := (b >>> 9#32) ||| 1065353216#32

/-- The fraction that the hash's upper 23 bits stand for. -/
def frac (b : BitVec 32) : ℝ := ((b.toNat / 512 : ℕ) : ℝ) / 2 ^ 23

/-- The fraction is not negative. -/
theorem frac_nonneg (b : BitVec 32) : 0 ≤ frac b := by unfold frac; positivity

/-- The fraction stays a step of 2 to the −23 below one. -/
theorem frac_le (b : BitVec 32) : frac b ≤ 1 - 1 / 2 ^ 23 := by
  have h : b.toNat / 512 ≤ 2 ^ 23 - 1 := by have := b.isLt; omega
  have h' : ((b.toNat / 512 : ℕ) : ℝ) ≤ ((2 ^ 23 - 1 : ℕ) : ℝ) := Nat.cast_le.2 h
  unfold frac
  rw [div_le_iff₀ (by norm_num)]
  norm_num at h' ⊢
  linarith

/-- The parts of the unit word: sign clear, exponent that of one, fraction the hash's upper bits. -/
theorem unitWord_parts (b : BitVec 32) : (unitWord b).extractLsb' 31 1 = 0#1 ∧ ((unitWord b).extractLsb' 23 8).toNat = 127
    ∧ ((unitWord b).extractLsb' 0 23).toNat = b.toNat / 512 := by
  have hb := b.isLt
  refine ⟨?_, ?_, ?_⟩
  · apply BitVec.eq_of_getLsbD_eq; intro i hi
    obtain rfl : i = 0 := by omega
    simp [unitWord, BitVec.getLsbD_extractLsb']
  · have : (unitWord b).extractLsb' 23 8 = 127#8 := by
      apply BitVec.eq_of_getLsbD_eq; intro i hi
      have : b.getLsbD (9 + (23 + i)) = false := BitVec.getLsbD_of_ge _ _ (by omega)
      interval_cases i <;> simp [unitWord, BitVec.getLsbD_extractLsb'] <;> first | rfl | decide
    rw [this]; rfl
  · have : (unitWord b).extractLsb' 0 23 = (b >>> 9).setWidth 23 := by
      apply BitVec.eq_of_getLsbD_eq; intro i hi
      have : (1065353216#32).getLsbD i = false := by interval_cases i <;> rfl
      simp [unitWord, BitVec.getLsbD_extractLsb', hi, this]
    rw [this, BitVec.toNat_setWidth, BitVec.toNat_ushiftRight, Nat.shiftRight_eq_div_pow]
    exact Nat.mod_eq_of_lt (by omega)

/-- The unit word's float: one plus the fraction. -/
theorem bits_unitWord (b : BitVec 32) : Ideal.ofBits .f32 (unitWord b) = ((1 + frac b : ℝ) : EReal) := by
  obtain ⟨h1, h2, h3⟩ := unitWord_parts b
  show Ideal.ieee 8 23 (unitWord b) = _
  unfold Ideal.ieee
  simp only [h1, h2, h3]
  norm_num [-EReal.coe_mul]
  unfold frac
  norm_cast
  push_cast
  ring

/-- The uniform draw: the fraction plus the least normal float. -/
def draw (b : BitVec 32) : ℝ := frac b + tiny

/-- The draw is positive. -/
theorem draw_pos (b : BitVec 32) : 0 < draw b := by
  have := frac_nonneg b
  have : 0 < tiny := by unfold tiny; positivity
  unfold draw; linarith

/-- The draw is below one. -/
theorem draw_lt_one (b : BitVec 32) : draw b < 1 := by
  have := frac_le b
  have h : tiny < 1 / 2 ^ 23 := by
    unfold tiny
    rw [zpow_neg, one_div]
    exact inv_strictAnti₀ (by positivity) (by norm_num)
  unfold draw; linarith

/-- The lower clamp leaves the draw as it is. -/
theorem clamp_draw (b : BitVec 32) : max (tiny : EReal) (((1 + frac b : ℝ) : EReal) - 1 + (tiny : EReal)) = (draw b : EReal) := by
  have e : ((1 + frac b : ℝ) : EReal) - 1 + (tiny : EReal) = (draw b : EReal) := by
    unfold draw
    rw [← EReal.coe_one]
    norm_cast
    ring_nf
  rw [e]
  refine max_eq_right (EReal.coe_le_coe_iff.2 ?_)
  have := frac_nonneg b
  unfold draw; linarith

/-- Minus the logarithm of the draw. -/
def wait (b : BitVec 32) : ℝ := -Real.log (draw b)

/-- It is positive. -/
theorem wait_pos (b : BitVec 32) : 0 < wait b := by
  have := Real.log_neg (draw_pos b) (draw_lt_one b)
  unfold wait; linarith

/-- The logarithm of a positive real. -/
theorem log_real {r : ℝ} (h : 0 < r) : Ideal.log (r : EReal) = ((Real.log r : ℝ) : EReal) := by
  show (if r ≤ 0 then ⊥ else _) = _
  exact if_neg (not_le.2 h)

/-- Division by a nonzero real. -/
theorem div_real (x : EReal) {r : ℝ} (h : r ≠ 0) : Ideal.div x (r : EReal) = x * ((r⁻¹ : ℝ) : EReal) := by
  unfold Ideal.div
  rw [if_neg (by exact_mod_cast h)]
  rfl

end Cert.Hash

end

end
-- ==== Proof.RowAlgebra.lean ====
/-
  ONE ROW, AT THE EXTENDED REALS.

  A row of logits whose maximum is finite, and a positive real `L c` for each column. The reference's softmax of (−log L + logit) / ½ with
  its own maximum subtracted, and the kernel's exp(2 (logit − maximum) − 34) times 1 / L², divided by its sum: both are `share`, the
  column's weight over the sum of the weights, where a column's weight is exp(2 logit) / L², zero at a logit of minus infinity.
-/
module

public import Idealize.ShloMosaic.PureOps
public import Idealize.ShloMosaic.PureOps.Ideal.Laws
public import proofs.«01_k».proof.Proof.Noise

@[expose] public section

noncomputable section

namespace Cert.Row

open Idealize.ShloMosaic Cert.Hash

/-- A fold of `max` from minus infinity over values below plus infinity, one of them above minus infinity, is a real. -/
theorem fold_max_real {n : ℕ} (y : Fin n → EReal) (ht : ∀ c, y c ≠ ⊤) (hb : ∃ c, y c ≠ ⊥) :
    ∃ m : ℝ, (Finset.univ : Finset (Fin n)).fold max ⊥ y = (m : EReal) := by
  have h1 : (Finset.univ : Finset (Fin n)).fold max ⊥ y < ⊤ :=
    (Finset.fold_max_lt ⊤).2 ⟨bot_lt_top, fun c _ => lt_top_iff_ne_top.2 (ht c)⟩
  have h2 : ⊥ < (Finset.univ : Finset (Fin n)).fold max ⊥ y := by
    obtain ⟨c, hc⟩ := hb
    exact (Finset.lt_fold_max ⊥).2 (Or.inr ⟨c, Finset.mem_univ _, bot_lt_iff_ne_bot.2 hc⟩)
  exact ⟨_, (EReal.coe_toReal h1.ne h2.ne').symm⟩

/-- If a fold of `max` from minus infinity is a real, no value is plus infinity and one is above minus infinity. -/
theorem of_fold_max_real {n : ℕ} (y : Fin n → EReal) (m : ℝ) (h : (Finset.univ : Finset (Fin n)).fold max ⊥ y = (m : EReal)) :
    (∀ c, y c ≠ ⊤) ∧ ∃ c, y c ≠ ⊥ := by
  constructor
  · intro c hc
    have : (⊤ : EReal) ≤ (Finset.univ : Finset (Fin n)).fold max ⊥ y :=
      (Finset.le_fold_max ⊤).2 (Or.inr ⟨c, Finset.mem_univ _, hc ▸ le_rfl⟩)
    rw [h] at this
    exact EReal.coe_ne_top m (top_le_iff.1 this)
  · by_contra hn
    have hn : ∀ c, y c = ⊥ := fun c => by_contra fun h' => hn ⟨c, h'⟩
    have : (⊥ : EReal) < (Finset.univ : Finset (Fin n)).fold max ⊥ y := by rw [h]; exact EReal.bot_lt_coe m
    rcases (Finset.lt_fold_max ⊥).1 this with h' | ⟨c, _, hc⟩
    · exact lt_irrefl _ h'
    · exact lt_irrefl _ (hn c ▸ hc)

/-- A column's weight: exp(2 x) / L², zero at a logit of minus infinity. -/
def weight (x : EReal) (L : ℝ) : ℝ := (if x = ⊥ then 0 else Real.exp (2 * x.toReal)) / (L * L)

/-- Weights are not negative. -/
theorem weight_nonneg (x : EReal) (L : ℝ) : 0 ≤ weight x L := by
  unfold weight
  split_ifs
  · simp
  · exact div_nonneg (Real.exp_pos _).le (mul_self_nonneg L)

/-- A logit above minus infinity has a positive weight. -/
theorem weight_pos {x : EReal} (hx : x ≠ ⊥) {L : ℝ} (hL : 0 < L) : 0 < weight x L := by
  unfold weight
  rw [if_neg hx]
  exact div_pos (Real.exp_pos _) (mul_pos hL hL)

/-- A column's share of the row. -/
def share {n : ℕ} (x : Fin n → EReal) (L : Fin n → ℝ) (c : Fin n) : ℝ := weight (x c) (L c) / ∑ c', weight (x c') (L c')

/-- A sum of reals, as a sum of extended reals. -/
theorem coe_sum {n : ℕ} (f : Fin n → ℝ) : ((∑ c, f c : ℝ) : EReal) = ∑ c, ((f c : ℝ) : EReal) := by
  induction n with
  | zero => simp
  | succ n ih => rw [Fin.sum_univ_succ, Fin.sum_univ_succ, EReal.coe_add, ih]

/-- The weights of a row with a logit above minus infinity have a positive sum. -/
theorem sum_pos {n : ℕ} (x : Fin n → EReal) (L : Fin n → ℝ) (hL : ∀ c, 0 < L c) (hb : ∃ c, x c ≠ ⊥) :
    0 < ∑ c, weight (x c) (L c) := by
  obtain ⟨c, hc⟩ := hb
  exact Finset.sum_pos' (fun c _ => weight_nonneg _ _) ⟨c, Finset.mem_univ _, weight_pos hc (hL c)⟩

/-- The kernel's term of a column: a positive multiple of the weight, the multiple the row's own. -/
theorem kernel_term {x : EReal} (hx : x ≠ ⊤) (m : ℝ) (L : ℝ) :
    Ideal.exp (((2 : ℝ) : EReal) * (x - (m : EReal)) - ((34 : ℝ) : EReal)) * ((1 / (L * L) : ℝ) : EReal)
      = ((Real.exp (-2 * m - 34) * weight x L : ℝ) : EReal) := by
  induction x with
  | bot =>
    have e : ((2 : ℝ) : EReal) * (⊥ - (m : EReal)) - ((34 : ℝ) : EReal) = ⊥ := by
      rw [EReal.bot_sub, EReal.coe_mul_bot_of_pos (by norm_num), EReal.bot_sub]
    rw [e]
    show (0 : EReal) * _ = _
    rw [zero_mul]; unfold weight; simp
  | top => exact absurd rfl hx
  | coe r =>
    have e : ((2 : ℝ) : EReal) * ((r : EReal) - (m : EReal)) - ((34 : ℝ) : EReal) = ((2 * (r - m) - 34 : ℝ) : EReal) := by
      norm_cast
    rw [e]
    show ((Real.exp _ : ℝ) : EReal) * _ = _
    rw [← EReal.coe_mul]
    congr 1
    unfold weight
    rw [if_neg (EReal.coe_ne_bot r), EReal.toReal_coe, show 2 * (r - m) - 34 = (-2 * m - 34) + 2 * r by ring, Real.exp_add]
    ring

/-- The reference's scaled logit plus noise, at a logit above minus infinity. -/
theorem noisy_real (r L : ℝ) :
    Ideal.div (((-Real.log L : ℝ) : EReal) + (r : EReal)) ((1 / 2 : ℝ) : EReal) = ((2 * (-Real.log L + r) : ℝ) : EReal) := by
  rw [div_real _ (by norm_num), ← EReal.coe_add, ← EReal.coe_mul]
  congr 1
  ring

/-- The reference's scaled logit plus noise, at a logit of minus infinity. -/
theorem noisy_bot (L : ℝ) : Ideal.div (((-Real.log L : ℝ) : EReal) + ⊥) ((1 / 2 : ℝ) : EReal) = ⊥ := by
  rw [div_real _ (by norm_num), EReal.add_bot, EReal.bot_mul_coe_of_pos (by norm_num)]

/-- The reference's term of a column: a positive multiple of the weight, the multiple the row's own. -/
theorem reference_term {x : EReal} (hx : x ≠ ⊤) (m : ℝ) {L : ℝ} (hL : 0 < L) :
    Ideal.exp (Ideal.div (((-Real.log L : ℝ) : EReal) + x) ((1 / 2 : ℝ) : EReal) - (m : EReal))
      = ((Real.exp (-m) * weight x L : ℝ) : EReal) := by
  induction x with
  | bot =>
    rw [noisy_bot, EReal.bot_sub]
    show (0 : EReal) = _
    unfold weight; simp
  | top => exact absurd rfl hx
  | coe r =>
    rw [noisy_real, ← EReal.coe_sub]
    show ((Real.exp _ : ℝ) : EReal) = _
    congr 1
    unfold weight
    rw [if_neg (EReal.coe_ne_bot r), EReal.toReal_coe,
      show 2 * (-Real.log L + r) - m = -m + (2 * r + (-(Real.log L + Real.log L))) by ring, Real.exp_add, Real.exp_add, Real.exp_neg (Real.log L + Real.log L),
      Real.exp_add, Real.exp_log hL]
    ring

/-- A quotient of common multiples. -/
theorem ratio {a s k : ℝ} (hk : 0 < k) (hs : 0 < s) : Ideal.div ((k * a : ℝ) : EReal) ((k * s : ℝ) : EReal) = ((a / s : ℝ) : EReal) := by
  rw [div_real _ (mul_pos hk hs).ne', ← EReal.coe_mul]
  congr 1
  field_simp

/-- A product with the reciprocal of a common multiple. -/
theorem ratio_mul {a s k : ℝ} (hk : 0 < k) (hs : 0 < s) :
    ((k * a : ℝ) : EReal) * Ideal.div 1 ((k * s : ℝ) : EReal) = ((a / s : ℝ) : EReal) := by
  rw [div_real _ (mul_pos hk hs).ne', ← EReal.coe_one, ← EReal.coe_mul, ← EReal.coe_mul]
  congr 1
  field_simp

section Row

variable {n : ℕ} (x : Fin n → EReal) (L : Fin n → ℝ) (hL : ∀ c, 0 < L c) (ht : ∀ c, x c ≠ ⊤) (hb : ∃ c, x c ≠ ⊥)

include hL ht hb

/-- The reference's row: its softmax at column `c` is the column's share. -/
theorem reference_row (m : EReal)
    (hm : m = (Finset.univ : Finset (Fin n)).fold max ⊥ (fun c => Ideal.div (((-Real.log (L c) : ℝ) : EReal) + x c) ((1 / 2 : ℝ) : EReal)))
    (c : Fin n) :
    Ideal.div (Ideal.exp (Ideal.div (((-Real.log (L c) : ℝ) : EReal) + x c) ((1 / 2 : ℝ) : EReal) - m))
      (∑ c', Ideal.exp (Ideal.div (((-Real.log (L c') : ℝ) : EReal) + x c') ((1 / 2 : ℝ) : EReal) - m)) = (share x L c : EReal) := by
  obtain ⟨r, hr⟩ := fold_max_real (fun c => Ideal.div (((-Real.log (L c) : ℝ) : EReal) + x c) ((1 / 2 : ℝ) : EReal))
    (fun c => by
      have := ht c
      show Ideal.div (((-Real.log (L c) : ℝ) : EReal) + x c) ((1 / 2 : ℝ) : EReal) ≠ ⊤
      generalize x c = y at this
      induction y with
      | bot => rw [noisy_bot]; exact bot_ne_top
      | top => exact absurd rfl this
      | coe r => rw [noisy_real]; exact EReal.coe_ne_top _)
    (by
      obtain ⟨c, hc⟩ := hb
      have hc' := ht c
      refine ⟨c, ?_⟩
      show Ideal.div (((-Real.log (L c) : ℝ) : EReal) + x c) ((1 / 2 : ℝ) : EReal) ≠ ⊥
      rw [← EReal.coe_toReal hc' hc, noisy_real]
      exact EReal.coe_ne_bot _)
  rw [hm, hr, reference_term (ht c) r (hL c), Finset.sum_congr rfl (fun c' _ => reference_term (ht c') r (hL c')), ← coe_sum,
    ← Finset.mul_sum, ratio (Real.exp_pos _) (sum_pos x L hL hb)]
  rfl

/-- The kernel's row: its normalised product at column `c` is the column's share. -/
theorem kernel_row (m : ℝ) (c : Fin n) :
    (Ideal.exp (((2 : ℝ) : EReal) * (x c - (m : EReal)) - ((34 : ℝ) : EReal)) * ((1 / (L c * L c) : ℝ) : EReal))
      * Ideal.div 1 (∑ c', Ideal.exp (((2 : ℝ) : EReal) * (x c' - (m : EReal)) - ((34 : ℝ) : EReal)) * ((1 / (L c' * L c') : ℝ) : EReal))
      = (share x L c : EReal) := by
  rw [kernel_term (ht c) m, Finset.sum_congr rfl (fun c' _ => kernel_term (ht c') m (L c')), ← coe_sum, ← Finset.mul_sum,
    ratio_mul (Real.exp_pos _) (sum_pos x L hL hb)]
  rfl

end Row

end Cert.Row

end

end
-- ==== Proof.KernelValue.lean ====
/-
  THE KERNEL'S BLOCKS.

  Read at an index at the extended reals: the first kernel's block holds one over the square of `wait` of the element's hash word; the
  second kernel's prepared row is exp(2 (logit − maximum) − 34), and its normalised product with a table block is the row's `share`.
-/
module

public import proofs.«01_k».proof.Proof.KernelWords
public import proofs.«01_k».proof.Proof.RowAlgebra
public import Idealize.ShloMosaic.Lib.Pipeline.Value

@[expose] public section

noncomputable section

namespace Cert.KernelIdeal.Hand

open Cert.KernelIdeal Cert.KernelIdeal.Gen Cert.Hash Cert.Row
open Idealize.ShloMosaic

/-- The first kernel's last payload at an index: the word to the unit interval's float, its logarithm, and one over its square. -/
theorem square_at (u v w : Vec Ideal S64x32768 .i32) (j : S64x32768.Idx) (h : BitVec 32)
    (e : IntOp.xori (IntOp.addi (u j) (w j)) (IntOp.addi (IntOp.addi (v j) 0#32) 5#32) = h) :
    k0_pay1 (F := Ideal) u v w j = Ideal.div (Ideal.ofBits .f32 0x3F800000#32)
      ((Ideal.ofBits .f32 0x00000000#32 - Ideal.log (max (Ideal.ofBits .f32 0x00800000#32)
          (Ideal.ofBits .f32 (IntOp.ori (IntOp.shrui .vector h 9#32) 1065353216#32)
            - Ideal.ofBits .f32 0x3F800000#32 + Ideal.ofBits .f32 0x00800000#32)))
        * (Ideal.ofBits .f32 0x00000000#32 - Ideal.log (max (Ideal.ofBits .f32 0x00800000#32)
          (Ideal.ofBits .f32 (IntOp.ori (IntOp.shrui .vector h 9#32) 1065353216#32)
            - Ideal.ofBits .f32 0x3F800000#32 + Ideal.ofBits .f32 0x00800000#32)))) := by
  rw [← e]
  rfl

/-- One over the square of the waiting value, of a hash word. -/
theorem square_wait (h : BitVec 32) :
    Ideal.div (Ideal.ofBits .f32 0x3F800000#32)
      ((Ideal.ofBits .f32 0x00000000#32 - Ideal.log (max (Ideal.ofBits .f32 0x00800000#32)
          (Ideal.ofBits .f32 (IntOp.ori (IntOp.shrui .vector h 9#32) 1065353216#32)
            - Ideal.ofBits .f32 0x3F800000#32 + Ideal.ofBits .f32 0x00800000#32)))
        * (Ideal.ofBits .f32 0x00000000#32 - Ideal.log (max (Ideal.ofBits .f32 0x00800000#32)
          (Ideal.ofBits .f32 (IntOp.ori (IntOp.shrui .vector h 9#32) 1065353216#32)
            - Ideal.ofBits .f32 0x3F800000#32 + Ideal.ofBits .f32 0x00800000#32))))
      = ((1 / (wait h * wait h) : ℝ) : EReal) := by
  have u : Ideal.ofBits .f32 (IntOp.ori (IntOp.shrui .vector h 9#32) 1065353216#32) = ((1 + frac h : ℝ) : EReal) := by
    rw [shrui_small _ _ _ (by decide)]
    exact bits_unitWord _
  rw [u, bits_tiny, Ideal.ofBits_one_f32, Ideal.ofBits_zero_f32, clamp_draw, log_real (draw_pos _), zero_sub, ← EReal.coe_neg]
  show Ideal.div 1 (((wait _ : ℝ) : EReal) * ((wait _ : ℝ) : EReal)) = _
  rw [← EReal.coe_mul, ← EReal.coe_one, div_real _ (mul_pos (wait_pos _) (wait_pos _)).ne', ← EReal.coe_mul, one_mul, one_div]

/-- One over the square of the waiting value, at row `j 0` and column `j 1` of the first kernel's block. -/
theorem table_at (i : grid0.Coords) (j : S64x32768.Idx) :
    tableBlock (F := Ideal) i j = ((1 / (wait (hashWord (at2 i j)) * wait (hashWord (at2 i j))) : ℝ) : EReal) :=
  (square_at _ _ _ j _ (k_hash i j)).trans (square_wait _)

/-- The index of row `r` and column `c` of a block. -/
abbrev bx (r : Fin 64) (c : Fin 32768) : S64x32768.Idx := fun a => match a with
  | ⟨0, _⟩ => r
  | ⟨1, _⟩ => c

/-- Every index of a block is its row's and its column's. -/
theorem bx_eq (j : S64x32768.Idx) : j = bx (j 0) (j 1) := funext fun a => match a with
  | ⟨0, _⟩ => rfl
  | ⟨1, _⟩ => rfl

/-- The index of row `r` of a column of row values. -/
abbrev rx (r : Fin 64) : S64.Idx := fun a => match a with
  | ⟨0, _⟩ => r

/-- The index of row `r` of a one-column block. -/
abbrev cx (r : Fin 64) : S64x1.Idx := fun a => match a with
  | ⟨0, _⟩ => r
  | ⟨1, _⟩ => ⟨0, Nat.one_pos⟩

/-- A one-column block of row values, broadcast over the columns, holds the row's value. -/
theorem spread_at {α : Type} (v : S64x1.Idx → α) (r : Fin 64) (c : Fin 32768) :
    broadcastTo S64x32768 v broadcasts_S64x1_S64x32768 (bx r c) = v (cx r) :=
  broadcastTo_apply v broadcasts_S64x1_S64x32768 (bx r c) (cx r) fun a => match a with
    | ⟨0, _⟩ => rfl
    | ⟨1, _⟩ => rfl

/-- The row values as a one-column block. -/
theorem column_at {α : Type} (v : S64.Idx → α) (r : Fin 64) : shapeCast S64x1 v shapeCasts_S64_S64x1 (cx r) = v (rx r) :=
  shapeCast_apply v shapeCasts_S64_S64x1 (cx r) (rx r) (by
    rw [Shape.rowMajor_val_one, Shape.rowMajor_val_two]
    show r.val = r.val * 1 + 0
    omega)

/-- A reshape of a block to its own shape is the block. -/
theorem same_at {α : Type} (v : S64x32768.Idx → α) (j : S64x32768.Idx) : shapeCast S64x32768 v shapeCasts_S64x32768_S64x32768 j = v j :=
  shapeCast_apply v _ j j rfl

/-- A row of the block inserted into the reduced index. -/
theorem lift_at (r : Fin 64) (c : Fin 32768) : (reduces_S64x32768_S64 : S64x32768.Reduces [1] S64).lift (rx r) c = bx r c :=
  funext fun a => match a with
    | ⟨0, _⟩ => rfl
    | ⟨1, _⟩ => rfl

/-- The maximum of row `r` of a block. -/
abbrev rowMax (x : Vec Ideal S64x32768 .f32) (r : Fin 64) : EReal :=
  (Finset.univ : Finset (Fin 32768)).fold max ⊥ (fun c => x (bx r c))

/-- The prepared row: exp(2 (logit − maximum) − 34). -/
theorem prepared_at (x : Vec Ideal S64x32768 .f32) (r : Fin 64) (c : Fin 32768) :
    k1_pay1 (F := Ideal) x (bx r c)
      = Ideal.exp (((2 : ℝ) : EReal) * (x (bx r c) - rowMax x r) - ((34 : ℝ) : EReal)) := by
  unfold k1_pay1
  rw [same_at]
  show Ideal.exp (Ideal.ofBits .f32 0x40000000#32 * (x (bx r c) - broadcastTo S64x32768 _ broadcasts_S64x1_S64x32768 (bx r c)) - Ideal.ofBits .f32 0x42080000#32) = _
  rw [spread_at, column_at, bits_two, bits_34]
  refine congrArg (fun z => Ideal.exp (((2 : ℝ) : EReal) * (x (bx r c) - z) - ((34 : ℝ) : EReal)))
    ((Ideal.multiReduction_maximumf_single x _ reduces_S64x32768_S64 _ _ (rx r)).trans ?_)
  have e : (x ∘ (reduces_S64x32768_S64 : S64x32768.Reduces [1] S64).lift (rx r)) = fun c : Fin 32768 => x (bx r c) :=
    funext fun c : Fin 32768 => congrArg x (lift_at r c)
  rw [Ideal.ofBits_def, bits_bot]
  exact congrArg (fun f : Fin 32768 → EReal => (Finset.univ : Finset (Fin 32768)).fold max ⊥ f) e

/-- One over the row values, as a one-column block. -/
theorem division_at (v : FVec Ideal S64 .f32) (r : Fin 64) :
    divf (F := Ideal) (broadcast S64x1 (Scalar.ofBits .f32 0x3F800000#32)) (shapeCast S64x1 v shapeCasts_S64_S64x1) (cx r) = Ideal.div 1 (v (rx r)) := by
  refine Eq.trans (b := Ideal.div (Ideal.ofBits .f32 0x3F800000#32) (shapeCast S64x1 v shapeCasts_S64_S64x1 (cx r))) rfl ?_
  rw [column_at, Ideal.ofBits_one_f32]

/-- The normalised product of a prepared block and a table block. -/
theorem product_at (p : Vec Ideal S64x32768 .f32) (q : Vec Ideal S64x32768 .bf16) (r : Fin 64) (c : Fin 32768) :
    k1_pay2 (F := Ideal) p q (bx r c)
      = (p (bx r c) * q (bx r c)) * Ideal.div 1 (∑ c' : Fin 32768, p (bx r c') * q (bx r c')) := by
  have e : ∀ j : S64x32768.Idx, mulf (F := Ideal) (p : FVec Ideal S64x32768 .f32)
      (extf .f32 (shapeCast S64x32768 (q : FVec Ideal S64x32768 .bf16) shapeCasts_S64x32768_S64x32768) bitsLt_bf16_f32) j = (p j * q j : EReal) := fun j => by
    refine Eq.trans (b := (p j * shapeCast S64x32768 q shapeCasts_S64x32768_S64x32768 j : EReal)) rfl ?_
    rw [same_at]
  unfold k1_pay2
  show mulf (F := Ideal) (p : FVec Ideal S64x32768 .f32) _ (bx r c) * broadcastTo S64x32768 _ broadcasts_S64x1_S64x32768 (bx r c) = _
  rw [spread_at, e]
  refine congrArg (fun z : EReal => (p (bx r c) * q (bx r c)) * z) (Eq.trans (division_at _ r) ?_)
  refine congrArg (fun z : EReal => Ideal.div 1 z) ((Ideal.multiReduction_add_single _ _ reduces_S64x32768_S64 _ _ (rx r)).trans ?_)
  exact Finset.sum_congr rfl fun c' _ => (e _).trans (by rw [lift_at r c'])

/-- The maximum of a block with the normalised product. -/
theorem best_at (p : Vec Ideal S64x32768 .f32) (q : Vec Ideal S64x32768 .bf16) (o : Vec Ideal S64x32768 .f32) (r : Fin 64) (c : Fin 32768) :
    k1_pay3 (F := Ideal) p q o (bx r c) = max (o (bx r c)) (k1_pay2 (F := Ideal) p q (bx r c)) := by
  unfold k1_pay3
  show max (shapeCast S64x32768 o shapeCasts_S64x32768_S64x32768 (bx r c)) _ = _
  rw [same_at]

/-- At a row with a finite maximum, the normalised product of the prepared row and the table's row is the row's share. -/
theorem product_share (x : Vec Ideal S64x32768 .f32) (i : grid0.Coords) (r : Fin 64) (c : Fin 32768) (m : ℝ) (hm : rowMax x r = (m : EReal)) :
    k1_pay2 (F := Ideal) (k1_pay1 (F := Ideal) x) (tableBlock (F := Ideal) i) (bx r c)
      = (share (fun c : Fin 32768 => x (bx r c)) (fun c : Fin 32768 => wait (hashWord (at2 i (bx r c)))) c : EReal) := by
  obtain ⟨ht, hb⟩ := of_fold_max_real _ m hm
  refine Eq.trans ?_ ( kernel_row (fun c : Fin 32768 => x (bx r c)) (fun c => wait (hashWord (at2 i (bx r c)))) (fun c => wait_pos _) ht hb m c)
  rw [product_at, prepared_at, table_at, hm]
  refine congrArg (fun z : EReal => (Ideal.exp (((2 : ℝ) : EReal) * (x (bx r c) - m) - ((34 : ℝ) : EReal))
    * ((1 / (wait (hashWord (at2 i (bx r c))) * wait (hashWord (at2 i (bx r c)))) : ℝ) : EReal)) * Ideal.div 1 z) ?_
  exact Finset.sum_congr rfl fun c' _ => by rw [prepared_at, table_at, hm]

end Cert.KernelIdeal.Hand

end

end
-- ==== Proof.Arrays.lean ====
/-
  WHAT THE TWO PIPELINES LEAVE IN THEIR ARRAYS.

  The table's array ends, at row `b` and column `32768 k + c`, at one over the square of row `b`, sample `k`, column `c`'s waiting value. The
  result's array ends, at row `b` and column `c`, at the greatest of the ten samples' shares.
-/
module

public import proofs.«01_k».proof.Proof.KernelValue
public import proofs.«01_k».proof.Proof.WholeRun

@[expose] public section

noncomputable section

namespace Cert.KernelIdeal.Hand

open Cert.KernelIdeal Cert.KernelIdeal.Gen Cert.Hash Cert.Row
open Idealize.ShloMosaic Idealize.ShloMosaic.TcCoe
open Idealize.ShloMosaic.Pipeline (Dat Cfg Window)

/-! ## Where a block sits in its array -/

/-- The first pipeline's block index at each point: its block of rows and its sample. -/
theorem place0 : ∀ t : Fin cfg0.N, win0_0.index t (0 : Fin 2) = t.val / 10 ∧ win0_0.index t (1 : Fin 2) = t.val % 10
    ∧ (grid0.coords t 0).val = t.val / 10 ∧ (grid0.coords t 1).val = t.val % 10 :=
  (by decide +kernel : ∀ t : Fin grid0.N, win0_0.index t (0 : Fin 2) = t.val / 10 ∧ win0_0.index t (1 : Fin 2) = t.val % 10
    ∧ (grid0.coords t 0).val = t.val / 10 ∧ (grid0.coords t 1).val = t.val % 10)

/-- The second pipeline's block indices at each point: of the rows, of the table, of the result. -/
theorem place1 : ∀ t : Fin cfg1.N, (win1_0.index t (0 : Fin 2) = t.val / 10 ∧ win1_0.index t (1 : Fin 2) = 0)
    ∧ (win1_1.index t (0 : Fin 2) = t.val / 10 ∧ win1_1.index t (1 : Fin 2) = t.val % 10)
    ∧ (win1_2.index t (0 : Fin 2) = t.val / 10 ∧ win1_2.index t (1 : Fin 2) = 0) :=
  (by decide +kernel : ∀ t : Fin grid1.N, (win1_0.index t (0 : Fin 2) = t.val / 10 ∧ win1_0.index t (1 : Fin 2) = 0)
    ∧ (win1_1.index t (0 : Fin 2) = t.val / 10 ∧ win1_1.index t (1 : Fin 2) = t.val % 10)
    ∧ (win1_2.index t (0 : Fin 2) = t.val / 10 ∧ win1_2.index t (1 : Fin 2) = 0))

/-- An element of the first pipeline's block, in the table. -/
theorem emb_table (t : Fin cfg0.N) (j : S64x32768.Idx) :
    (((cfg0.win 0).blk t).view.emb j (0 : Fin 2)).val = 64 * (t.val / 10) + (j 0).val
      ∧ (((cfg0.win 0).blk t).view.emb j (1 : Fin 2)).val = 32768 * (t.val % 10) + (j 1).val := by
  obtain ⟨e0, e1, -, -⟩ := place0 t
  constructor
  · show win0_0.index t (0 : Fin 2) * 64 + 1 * (j 0).val = _
    omega
  · show win0_0.index t (1 : Fin 2) * 32768 + 1 * (j 1).val = _
    omega

/-- An element of the second pipeline's block of rows, in the argument. -/
theorem emb_rows (t : Fin cfg1.N) (j : S64x32768.Idx) :
    (((cfg1.win 0).blk t).view.emb j (0 : Fin 2)).val = 64 * (t.val / 10) + (j 0).val
      ∧ (((cfg1.win 0).blk t).view.emb j (1 : Fin 2)).val = (j 1).val := by
  obtain ⟨⟨e0, e1⟩, -, -⟩ := place1 t
  constructor
  · show win1_0.index t (0 : Fin 2) * 64 + 1 * (j 0).val = _
    omega
  · show win1_0.index t (1 : Fin 2) * 32768 + 1 * (j 1).val = _
    omega

/-- An element of the second pipeline's block of the table. -/
theorem emb_square (t : Fin cfg1.N) (j : S64x32768.Idx) :
    (((cfg1.win 1).blk t).view.emb j (0 : Fin 2)).val = 64 * (t.val / 10) + (j 0).val
      ∧ (((cfg1.win 1).blk t).view.emb j (1 : Fin 2)).val = 32768 * (t.val % 10) + (j 1).val := by
  obtain ⟨-, ⟨e0, e1⟩, -⟩ := place1 t
  constructor
  · show win1_1.index t (0 : Fin 2) * 64 + 1 * (j 0).val = _
    omega
  · show win1_1.index t (1 : Fin 2) * 32768 + 1 * (j 1).val = _
    omega

/-- An element of the second pipeline's block of the result. -/
theorem emb_result (t : Fin cfg1.N) (j : S64x32768.Idx) :
    (((cfg1.win 2).blk t).view.emb j (0 : Fin 2)).val = 64 * (t.val / 10) + (j 0).val
      ∧ (((cfg1.win 2).blk t).view.emb j (1 : Fin 2)).val = (j 1).val := by
  obtain ⟨-, -, ⟨e0, e1⟩⟩ := place1 t
  constructor
  · show win1_2.index t (0 : Fin 2) * 64 + 1 * (j 0).val = _
    omega
  · show win1_2.index t (1 : Fin 2) * 32768 + 1 * (j 1).val = _
    omega

/-! ## The table -/

/-- The waiting value of row `b`, sample `k`, column `c`. -/
def drawn (b k c : ℕ) : ℝ := wait (hashWord (counter b k c))

/-- The table's contents: one over the square of the waiting value. -/
def squares : S128x327680.Idx → EReal := fun i =>
  ((1 / (drawn (i 0).val ((i 1).val / 32768) ((i 1).val % 32768) * drawn (i 0).val ((i 1).val / 32768) ((i 1).val % 32768)) : ℝ) : EReal)

variable (m : (ℓ : Loc nD τ sig) → Buf (Elt Ideal) ℓ)

/-- A point's block of the table. -/
theorem squares_at (t : Fin cfg0.N) (j : S64x32768.Idx) :
    tableBlock (F := Ideal) (grid0.coords t) j = squares (((cfg0.win 0).blk t).view.emb j) := by
  obtain ⟨-, -, c0, c1⟩ := place0 t
  obtain ⟨e0, e1⟩ := emb_table t j
  have hj : (j 1).val < 32768 := (j 1).isLt
  rw [table_at]
  unfold squares drawn at2
  rw [e0, e1, c0, c1, Nat.mul_add_div (by decide), Nat.div_eq_of_lt hj, Nat.add_zero, Nat.mul_add_mod, Nat.mod_eq_of_lt hj]

/-- The table after the first pipeline. -/
theorem table_final (c : Dev nD) : (tableDat (startVal m) c).arrAt 0 cfg0.N = squares := by
  refine (tableDat (startVal m) c).arrAt_eq_of_cover 0 squares (fun t _ => funext fun j => ?_) fun i => ?_
  · exact (congrFun (tableDat_after (startVal m) c t) j).trans (squares_at t j)
  · have h0 : (i (0 : Fin 2)).val < 128 := (i 0).isLt
    have h1 : (i (1 : Fin 2)).val < 327680 := (i 1).isLt
    have ht : 10 * ((i (0 : Fin 2)).val / 64) + (i (1 : Fin 2)).val / 32768 < cfg0.N := Nat.lt_of_lt_of_eq (by omega) N_0.symm
    refine ⟨⟨_, ht⟩, flush0_0 _, ?_⟩
    have e : ((cfg0.win 0).blk ⟨_, ht⟩).view.emb (bx ⟨(i (0 : Fin 2)).val % 64, Nat.mod_lt _ (by decide)⟩ ⟨(i (1 : Fin 2)).val % 32768, Nat.mod_lt _ (by decide)⟩) = i := by
      obtain ⟨e0, e1⟩ := emb_table ⟨_, ht⟩ (bx ⟨(i (0 : Fin 2)).val % 64, Nat.mod_lt _ (by decide)⟩ ⟨(i (1 : Fin 2)).val % 32768, Nat.mod_lt _ (by decide)⟩)
      funext a
      apply Fin.ext
      match a with
      | ⟨0, _⟩ =>
        refine e0.trans ?_
        show 64 * ((10 * ((i (0 : Fin 2)).val / 64) + (i (1 : Fin 2)).val / 32768) / 10) + (i (0 : Fin 2)).val % 64 = (i (0 : Fin 2)).val
        omega
      | ⟨1, _⟩ =>
        refine e1.trans ?_
        show 32768 * ((10 * ((i (0 : Fin 2)).val / 64) + (i (1 : Fin 2)).val / 32768) % 10) + (i (1 : Fin 2)).val % 32768 = (i (1 : Fin 2)).val
        omega
    have h := ((cfg0.win 0).blk ⟨_, ht⟩).view.emb_mem_set (bx ⟨(i (0 : Fin 2)).val % 64, Nat.mod_lt _ (by decide)⟩ ⟨(i (1 : Fin 2)).val % 32768, Nat.mod_lt _ (by decide)⟩)
    rwa [e] at h

/-! ## The second pipeline's blocks -/

/-- The argument. -/
abbrev logits (c : Dev nD) : S128x32768.Idx → EReal := m ((c : Thread nD τ).loc main_arg0)

/-- The index of row `b` and column `c`. -/
abbrev gx (b : Fin 128) (c : Fin 32768) : S128x32768.Idx := fun a => match a with
  | ⟨0, _⟩ => b
  | ⟨1, _⟩ => c

/-- The block of rows at a point. -/
theorem rows_at (c : Dev nD) (t : Fin cfg1.N) (j : S64x32768.Idx) (b : Fin 128) (hb : b.val = 64 * (t.val / 10) + (j 0).val) :
    blockAt (midVal m) c 0 t j = logits m c (gx b (j 1)) := by
  obtain ⟨e0, e1⟩ := emb_rows t j
  show midVal m c main_arg0 (((cfg1.win 0).blk t).view.emb j) = _
  rw [midVal_arg]
  refine congrArg (logits m c) (funext fun a => Fin.ext ?_)
  match a with
  | ⟨0, _⟩ => exact e0.trans hb.symm
  | ⟨1, _⟩ => exact e1

/-- The block of the table at a point. -/
theorem block_table (c : Dev nD) (t : Fin cfg1.N) (u : Fin cfg0.N) (hu : u.val = t.val) :
    blockAt (midVal m) c 1 t = tableBlock (F := Ideal) (grid0.coords u) := by
  funext j
  obtain ⟨e0, e1⟩ := emb_square t j
  obtain ⟨f0, f1⟩ := emb_table u j
  rw [squares_at]
  show midVal m c main_call0_v0 (((cfg1.win 1).blk t).view.emb j) = _
  rw [midVal_table, table_final]
  refine congrArg squares (funext fun a => Fin.ext ?_)
  match a with
  | ⟨0, _⟩ => exact e0.trans ((by rw [hu] : _ = _).trans f0.symm)
  | ⟨1, _⟩ => exact e1.trans ((by rw [hu] : _ = _).trans f1.symm)

/-! ## The result -/

/-- The share of row `b`, sample `k` at column `c`. -/
def shareAt (x : S128x32768.Idx → EReal) (b : Fin 128) (k : ℕ) (c : Fin 32768) : EReal :=
  (share (fun c : Fin 32768 => x (gx b c)) (fun c : Fin 32768 => drawn b.val k c.val) c : EReal)

/-- Every row's maximum is a real number. -/
def RowsFinite (x : S128x32768.Idx → EReal) : Prop :=
  ∀ b : Fin 128, ∃ r : ℝ, (Finset.univ : Finset (Fin 32768)).fold max ⊥ (fun c => x (gx b c)) = (r : EReal)

/-- Where the rounds of a block of rows start, the scratch holds the prepared block, and it stays. -/
theorem scratch_at (c : Dev nD) (q : ℕ) : ∀ (k : ℕ) (hk : k < 10) (h : 10 * q + k < cfg1.N) (h' : 10 * q < cfg1.N),
    scrAt (midVal m) c (10 * q + k) h = k1_pay1 (blockAt (midVal m) c 0 ⟨10 * q, h'⟩)
  | 0, _, _, h' => scrAt_first (midVal m) c ⟨10 * q, h'⟩ (Nat.mul_mod_right 10 q)
  | k + 1, hk, h, h' => (scrAt_later (midVal m) c ⟨10 * q + (k + 1), h⟩ (by show ¬(10 * q + (k + 1)) % 10 = 0; omega)).trans
      (scratch_at c q k (Nat.lt_of_succ_lt hk) (Nat.lt_of_succ_lt h) h')

/-- The normalised products of a round are the row's shares. -/
theorem round_at (c : Dev nD) (hx : RowsFinite (logits m c)) (q k : ℕ) (hk : k < 10) (h : 10 * q + k < cfg1.N) (h' : 10 * q < cfg1.N)
    (r : Fin 64) (col : Fin 32768) (b : Fin 128) (hb : b.val = 64 * q + r.val) :
    k1_pay2 (F := Ideal) (k1_pay1 (blockAt (midVal m) c 0 ⟨10 * q, h'⟩)) (blockAt (midVal m) c 1 ⟨10 * q + k, h⟩) (bx r col)
      = shareAt (logits m c) b k col := by
  have hN0 : cfg0.N = cfg1.N := N_0.trans N_1.symm
  have e : (fun col : Fin 32768 => blockAt (midVal m) c 0 ⟨10 * q, h'⟩ (bx r col)) = fun col => logits m c (gx b col) :=
    funext fun col => rows_at m c ⟨10 * q, h'⟩ (bx r col) b (by show b.val = 64 * (10 * q / 10) + r.val; omega)
  obtain ⟨mx, hm⟩ := hx b
  rw [block_table m c ⟨10 * q + k, h⟩ ⟨10 * q + k, hN0 ▸ h⟩ rfl]
  rw [product_share _ _ r col mx ((congrArg (fun f : Fin 32768 → EReal => (Finset.univ : Finset (Fin 32768)).fold max ⊥ f) e).trans hm)]
  obtain ⟨-, -, c0, c1⟩ := place0 ⟨10 * q + k, hN0 ▸ h⟩
  unfold shareAt
  rw [e]
  refine congrArg (fun L : Fin 32768 → ℝ => (share (fun c' : Fin 32768 => logits m c (gx b c')) L col : EReal)) (funext fun c' => ?_)
  unfold drawn at2
  rw [c0, c1, hb]
  show wait (hashWord (counter (64 * ((10 * q + k) / 10) + r.val) ((10 * q + k) % 10) c'.val)) = _
  rw [show (10 * q + k) / 10 = q by omega, show (10 * q + k) % 10 = k by omega]

/-- After round `k` the output's buffer holds the greatest share of the rounds so far. -/
theorem rounds_at (c : Dev nD) (hx : RowsFinite (logits m c)) (q : ℕ) (r : Fin 64) (col : Fin 32768) (b : Fin 128) (hb : b.val = 64 * q + r.val) :
    ∀ (k : ℕ) (hk : k < 10) (h : 10 * q + k < cfg1.N),
      outAt (midVal m) c (10 * q + k) h (bx r col) = (Finset.range (k + 1)).fold max ⊥ (fun k => shareAt (logits m c) b k col)
  | 0, hk, h => by
    refine (congrFun (outAt_first (midVal m) c ⟨10 * q, h⟩ (Nat.mul_mod_right 10 q)) _).trans
      ((round_at m c hx q 0 hk h h r col b hb).trans ?_)
    rw [Finset.range_one, Finset.fold_singleton, max_eq_left bot_le]
  | k + 1, hk, h => by
    have h' : 10 * q < cfg1.N := by omega
    refine (congrFun (outAt_later (midVal m) c ⟨10 * q + (k + 1), h⟩ (by show ¬(10 * q + (k + 1)) % 10 = 0; omega)) _).trans ?_
    rw [best_at, Finset.range_add_one, Finset.fold_insert Finset.notMem_range_self, max_comm]
    refine congrArg₂ max ?_ (rounds_at c hx q r col b hb k (Nat.lt_of_succ_lt hk) (Nat.lt_of_succ_lt h))
    refine (congrArg (fun s => k1_pay2 (F := Ideal) s _ _) (scratch_at m c q k (Nat.lt_of_succ_lt hk) (Nat.lt_of_succ_lt h) h')).trans
      (round_at m c hx q (k + 1) hk h h' r col b hb)

/-- The greatest share of ten, at row `b` and column `c`. -/
def bestShare (x : S128x32768.Idx → EReal) : S128x32768.Idx → EReal := fun i =>
  (Finset.univ : Finset (Fin 10)).fold max ⊥ (fun k : Fin 10 => shareAt x (i 0) k.val (i 1))

/-- The greatest of the first ten of a sequence, over the numbers below ten as over their type. -/
theorem fold_ten (f : ℕ → EReal) : (Finset.range 10).fold max ⊥ f = (Finset.univ : Finset (Fin 10)).fold max ⊥ (fun k : Fin 10 => f k.val) := by
  rw [show Finset.range 10 = (Finset.univ : Finset (Fin 10)).map Fin.valEmbedding from by decide, Finset.fold_map]
  rfl

/-- The result after the second pipeline. -/
theorem result_final (c : Dev nD) (hx : RowsFinite (logits m c)) : finalOut m c = bestShare (logits m c) := by
  unfold finalOut
  refine (mainDat (midVal m) c).arrAt_eq_of_cover 2 (bestShare (logits m c)) (fun t ht => funext fun j => ?_) fun i => ?_
  · have h9 : t.val % 10 = 9 := (flush1_2 t).1 ht
    have hN : t.val < 20 := Nat.lt_of_lt_of_eq t.isLt N_1
    have hj : (j 0).val < 64 := (j 0).isLt
    obtain ⟨e0, e1⟩ := emb_result t j
    have ht' : 10 * (t.val / 10) + 9 = t.val := by omega
    have hlt : 10 * (t.val / 10) + 9 < cfg1.N := ht'.symm ▸ t.isLt
    have et : t = ⟨10 * (t.val / 10) + 9, hlt⟩ := Fin.ext ht'.symm
    refine (congrFun (mainDat_after2 (midVal m) c t) j).trans ?_
    have key := rounds_at m c hx (t.val / 10) (j 0) (j 1) ⟨64 * (t.val / 10) + (j 0).val, by omega⟩ rfl 9 (by decide) hlt
    rw [fold_ten] at key
    have ei : ((cfg1.win 2).blk t).view.emb j = gx ⟨64 * (t.val / 10) + (j 0).val, by omega⟩ (j 1) := funext fun a => Fin.ext (match a with
      | ⟨0, _⟩ => e0
      | ⟨1, _⟩ => e1)
    have eo : outAt (midVal m) c t.val t.isLt = outAt (midVal m) c (10 * (t.val / 10) + 9) hlt :=
      congrArg (fun t : Fin cfg1.N => outAt (midVal m) c t.val t.isLt) et
    refine (congrFun eo j).trans ((congrArg (outAt (midVal m) c (10 * (t.val / 10) + 9) hlt) (bx_eq j)).trans (key.trans ?_))
    exact (congrArg (bestShare (logits m c)) ei).symm
  · have h0 : (i (0 : Fin 2)).val < 128 := (i 0).isLt
    have ht : 10 * ((i (0 : Fin 2)).val / 64) + 9 < cfg1.N := Nat.lt_of_lt_of_eq (by omega) N_1.symm
    refine ⟨⟨_, ht⟩, (flush1_2 _).2 (by show (10 * ((i (0 : Fin 2)).val / 64) + 9) % 10 = 9; omega), ?_⟩
    have e : ((cfg1.win 2).blk ⟨_, ht⟩).view.emb (bx ⟨(i (0 : Fin 2)).val % 64, Nat.mod_lt _ (by decide)⟩ (i (1 : Fin 2))) = i := by
      obtain ⟨e0, e1⟩ := emb_result ⟨_, ht⟩ (bx ⟨(i (0 : Fin 2)).val % 64, Nat.mod_lt _ (by decide)⟩ (i (1 : Fin 2)))
      funext a
      apply Fin.ext
      match a with
      | ⟨0, _⟩ =>
        refine e0.trans ?_
        show 64 * ((10 * ((i (0 : Fin 2)).val / 64) + 9) / 10) + (i (0 : Fin 2)).val % 64 = (i (0 : Fin 2)).val
        omega
      | ⟨1, _⟩ => exact e1
    have h := ((cfg1.win 2).blk ⟨_, ht⟩).view.emb_mem_set (bx ⟨(i (0 : Fin 2)).val % 64, Nat.mod_lt _ (by decide)⟩ (i (1 : Fin 2)))
    rwa [e] at h

end Cert.KernelIdeal.Hand

end

end
-- ==== Proof.RefWords.lean ====
/-
  THE REFERENCE'S HASH WORDS.

  The reference hashes each element's position with the counter hash. Read at an index, its two key words are 0 and 1, its counter is
  `counter`, and its chain of values is the chain of states of Proof/HashScalar.lean; the combined word is `hashWord` of the counter.
-/
module

public import proofs.«01_k».proof.Proof.Gen.ReferenceIdeal.Read
public import proofs.«01_k».proof.Proof.HashScalar

@[expose] public section

noncomputable section

namespace Cert.ReferenceIdeal.Hand

open Cert.ReferenceIdeal Cert.ReferenceIdeal.Gen Cert.ReferenceIdeal.Read Cert.Hash
open Idealize.ShloMosaic

variable {F : FTy → Type} [FloatOps F]

/-- The seed's upper word is zero. -/
theorem seed_upper (i : S1.Idx) : val_main_v3 (F := F) i = 0#32 := by
  rw [val_main_v3_apply, val_main_v2_apply, val_main_v1_apply, val_main_c_apply, val_main_c_0_apply]
  rfl

/-- The seed's lower word is one. -/
theorem seed_lower (i : S1.Idx) : val_main_v6 (F := F) i = 1#32 := by
  rw [val_main_v6_apply, val_main_v5_apply, val_main_v4_apply, val_main_c_apply, val_main_c_1_apply]
  rfl

/-- The first key word, as a one-element slice. -/
theorem key0_slice (i : S1.Idx) : val_main_v8 (F := F) i = 0#32 := by
  rw [val_main_v8_apply]; unfold val_main_v7
  refine (concatenate_pair_apply_left (t := S2) (s₁ := S1) (s₂ := S1) 0 _ _ _ _ rfl i (fun b => ?_)).trans (seed_upper _)
  match b with
  | ⟨0, _⟩ => rfl

/-- The second key word, as a one-element slice. -/
theorem key1_slice (i : S1.Idx) : val_main_v10 (F := F) i = 1#32 := by
  rw [val_main_v10_apply]; unfold val_main_v7
  refine (concatenate_pair_apply_right (t := S2) (s₁ := S1) (s₂ := S1) 0 _ _ _ _ rfl rfl i (fun b hb => ?_) ?_).trans (seed_lower _)
  · match b, hb with
    | ⟨0, _⟩, hb => exact absurd rfl hb
  · show (i 0).val + 1 = 1 + (i 0).val
    omega

/-- The first key word is zero. -/
theorem key0 (i : S_.Idx) : val_main_v9 (F := F) i = 0#32 := key0_slice _

/-- The second key word is one. -/
theorem key1 (i : S_.Idx) : val_main_v11 (F := F) i = 1#32 := key1_slice _

/-- The third key word. -/
theorem key2 (i : S_.Idx) : val_main_v28 (F := F) i = 466688987#32 := by
  rw [val_main_v28_apply, val_main_v27_apply, key0, key1, val_main_c_6_apply]; rfl

/-- The position of the element at `i`. -/
abbrev at3 (i : S128x10x32768.Idx) : BitVec 32 := counter (i 0).val (i 1).val (i 2).val

/-- The position as a 64-bit word. -/
theorem wide_counter (i : S128x10x32768.Idx) :
    val_main_v22 (F := F) i = BitVec.ofNat 64 (327680 * (i 0).val + 32768 * (i 1).val + (i 2).val) := by
  rw [val_main_v22_apply, val_main_v21_apply, val_main_v20_apply, val_main_v16_apply, val_main_v18_apply, val_main_v15_apply,
    val_main_v17_apply, val_main_v19_apply, val_main_c_2_apply, val_main_c_3_apply, val_main_c_4_apply, val_main_v12_apply,
    val_main_v13_apply, val_main_v14_apply]
  show 327680#64 * _ + 32768#64 * _ + 1#64 * _ = _
  rw [BitVec.one_mul]
  simp only [← BitVec.ofNat_mul, ← BitVec.ofNat_add]

/-- The counter's lower word. -/
theorem lower_counter (i : S128x10x32768.Idx) : val_main_v25 (F := F) i = at3 i := by
  rw [val_main_v25_apply, wide_counter]
  exact BitVec.setWidth_ofNat_of_le (by decide) _

/-- The counter's upper word is zero: the array has fewer than 2 to the 32 elements. -/
theorem upper_counter (i : S128x10x32768.Idx) : val_main_v26 (F := F) i = 0#32 := by
  have h0 : (i 0).val < 128 := (i 0).isLt
  have h1 : (i 1).val < 10 := (i 1).isLt
  have h2 : (i 2).val < 32768 := (i 2).isLt
  rw [val_main_v26_apply, val_main_v24_apply, wide_counter, val_main_v23_apply, val_main_c_5_apply]
  have e : ∀ x : BitVec 64, IntOp.shrui .host x 32#64 = x >>> 32 := fun x => by
    show (if (32#64).toNat < 64 then x >>> 32#64 else _) = _
    rw [if_pos (by decide)]; rfl
  rw [e]
  apply BitVec.eq_of_toNat_eq
  have hn : 327680 * (i 0).val + 32768 * (i 1).val + (i 2).val < 4294967296 := by omega
  rw [BitVec.toNat_setWidth, BitVec.toNat_ushiftRight, BitVec.toNat_ofNat, Nat.mod_eq_of_lt (a := _ + _) (by omega),
    Nat.shiftRight_eq_div_pow, Nat.div_eq_of_lt hn]
  rfl

/-- The start of the chain. -/
theorem ref_state0 (i : S128x10x32768.Idx) :
    val_main_v30 (F := F) i = (state0 (at3 i)).1 ∧ val_main_v32 (F := F) i = (state0 (at3 i)).2 := by
  constructor
  · rw [val_main_v30_apply, upper_counter, val_main_v29_apply, key0]; rfl
  · rw [val_main_v32_apply, lower_counter, val_main_v31_apply, key1]; rfl

/-- Round 1. -/
theorem ref_state1 (i : S128x10x32768.Idx) :
    val_main_v33 (F := F) i = (state1 (at3 i)).1 ∧ val_main_v39 (F := F) i = (state1 (at3 i)).2 := by
  obtain ⟨h0, h1⟩ := ref_state0 (F := F) i
  have hs : val_main_v33 (F := F) i = (state1 (at3 i)).1 := by rw [val_main_v33_apply, h0, h1]; rfl
  refine ⟨hs, ?_⟩
  rw [val_main_v39_apply, val_main_v38_apply, val_main_v35_apply, val_main_v37_apply, hs, h1, val_main_v34_apply, val_main_v36_apply, val_main_c_7_apply, val_main_c_8_apply, turn_word _ _ _ _ (by decide) (by decide)]; rfl

/-- Round 2. -/
theorem ref_state2 (i : S128x10x32768.Idx) :
    val_main_v40 (F := F) i = (state2 (at3 i)).1 ∧ val_main_v46 (F := F) i = (state2 (at3 i)).2 := by
  obtain ⟨h0, h1⟩ := ref_state1 (F := F) i
  have hs : val_main_v40 (F := F) i = (state2 (at3 i)).1 := by rw [val_main_v40_apply, h0, h1]; rfl
  refine ⟨hs, ?_⟩
  rw [val_main_v46_apply, val_main_v45_apply, val_main_v42_apply, val_main_v44_apply, hs, h1, val_main_v41_apply, val_main_v43_apply, val_main_c_9_apply, val_main_c_10_apply, turn_word _ _ _ _ (by decide) (by decide)]; rfl

/-- Round 3. -/
theorem ref_state3 (i : S128x10x32768.Idx) :
    val_main_v47 (F := F) i = (state3 (at3 i)).1 ∧ val_main_v53 (F := F) i = (state3 (at3 i)).2 := by
  obtain ⟨h0, h1⟩ := ref_state2 (F := F) i
  have hs : val_main_v47 (F := F) i = (state3 (at3 i)).1 := by rw [val_main_v47_apply, h0, h1]; rfl
  refine ⟨hs, ?_⟩
  rw [val_main_v53_apply, val_main_v52_apply, val_main_v49_apply, val_main_v51_apply, hs, h1, val_main_v48_apply, val_main_v50_apply, val_main_c_11_apply, val_main_c_12_apply, turn_word _ _ _ _ (by decide) (by decide)]; rfl

/-- Round 4. -/
theorem ref_state4 (i : S128x10x32768.Idx) :
    val_main_v54 (F := F) i = (state4 (at3 i)).1 ∧ val_main_v60 (F := F) i = (state4 (at3 i)).2 := by
  obtain ⟨h0, h1⟩ := ref_state3 (F := F) i
  have hs : val_main_v54 (F := F) i = (state4 (at3 i)).1 := by rw [val_main_v54_apply, h0, h1]; rfl
  refine ⟨hs, ?_⟩
  rw [val_main_v60_apply, val_main_v59_apply, val_main_v56_apply, val_main_v58_apply, hs, h1, val_main_v55_apply, val_main_v57_apply, val_main_c_13_apply, val_main_c_14_apply, turn_word _ _ _ _ (by decide) (by decide)]; rfl

/-- Key addition 1. -/
theorem ref_keyed1 (i : S128x10x32768.Idx) :
    val_main_v62 (F := F) i = (keyed1 (at3 i)).1 ∧ val_main_v66 (F := F) i = (keyed1 (at3 i)).2 := by
  obtain ⟨h0, h1⟩ := ref_state4 (F := F) i
  constructor
  · rw [val_main_v62_apply, h0, val_main_v61_apply, key1]; rfl
  · rw [val_main_v66_apply, val_main_v64_apply, h1, val_main_v63_apply, key2, val_main_v65_apply, val_main_c_15_apply]; rfl

/-- Round 5. -/
theorem ref_state5 (i : S128x10x32768.Idx) :
    val_main_v67 (F := F) i = (state5 (at3 i)).1 ∧ val_main_v73 (F := F) i = (state5 (at3 i)).2 := by
  obtain ⟨h0, h1⟩ := ref_keyed1 (F := F) i
  have hs : val_main_v67 (F := F) i = (state5 (at3 i)).1 := by rw [val_main_v67_apply, h0, h1]; rfl
  refine ⟨hs, ?_⟩
  rw [val_main_v73_apply, val_main_v72_apply, val_main_v69_apply, val_main_v71_apply, hs, h1, val_main_v68_apply, val_main_v70_apply, val_main_c_16_apply, val_main_c_17_apply, turn_word _ _ _ _ (by decide) (by decide)]; rfl

/-- Round 6. -/
theorem ref_state6 (i : S128x10x32768.Idx) :
    val_main_v74 (F := F) i = (state6 (at3 i)).1 ∧ val_main_v80 (F := F) i = (state6 (at3 i)).2 := by
  obtain ⟨h0, h1⟩ := ref_state5 (F := F) i
  have hs : val_main_v74 (F := F) i = (state6 (at3 i)).1 := by rw [val_main_v74_apply, h0, h1]; rfl
  refine ⟨hs, ?_⟩
  rw [val_main_v80_apply, val_main_v79_apply, val_main_v76_apply, val_main_v78_apply, hs, h1, val_main_v75_apply, val_main_v77_apply, val_main_c_18_apply, val_main_c_19_apply, turn_word _ _ _ _ (by decide) (by decide)]; rfl

/-- Round 7. -/
theorem ref_state7 (i : S128x10x32768.Idx) :
    val_main_v81 (F := F) i = (state7 (at3 i)).1 ∧ val_main_v87 (F := F) i = (state7 (at3 i)).2 := by
  obtain ⟨h0, h1⟩ := ref_state6 (F := F) i
  have hs : val_main_v81 (F := F) i = (state7 (at3 i)).1 := by rw [val_main_v81_apply, h0, h1]; rfl
  refine ⟨hs, ?_⟩
  rw [val_main_v87_apply, val_main_v86_apply, val_main_v83_apply, val_main_v85_apply, hs, h1, val_main_v82_apply, val_main_v84_apply, val_main_c_20_apply, val_main_c_21_apply, turn_word _ _ _ _ (by decide) (by decide)]; rfl

/-- Round 8. -/
theorem ref_state8 (i : S128x10x32768.Idx) :
    val_main_v88 (F := F) i = (state8 (at3 i)).1 ∧ val_main_v94 (F := F) i = (state8 (at3 i)).2 := by
  obtain ⟨h0, h1⟩ := ref_state7 (F := F) i
  have hs : val_main_v88 (F := F) i = (state8 (at3 i)).1 := by rw [val_main_v88_apply, h0, h1]; rfl
  refine ⟨hs, ?_⟩
  rw [val_main_v94_apply, val_main_v93_apply, val_main_v90_apply, val_main_v92_apply, hs, h1, val_main_v89_apply, val_main_v91_apply, val_main_c_22_apply, val_main_c_23_apply, turn_word _ _ _ _ (by decide) (by decide)]; rfl

/-- Key addition 2. -/
theorem ref_keyed2 (i : S128x10x32768.Idx) :
    val_main_v96 (F := F) i = (keyed2 (at3 i)).1 ∧ val_main_v100 (F := F) i = (keyed2 (at3 i)).2 := by
  obtain ⟨h0, h1⟩ := ref_state8 (F := F) i
  constructor
  · rw [val_main_v96_apply, h0, val_main_v95_apply, key2]; rfl
  · rw [val_main_v100_apply, val_main_v98_apply, h1, val_main_v97_apply, key0, val_main_v99_apply, val_main_c_24_apply]; rfl

/-- Round 9. -/
theorem ref_state9 (i : S128x10x32768.Idx) :
    val_main_v101 (F := F) i = (state9 (at3 i)).1 ∧ val_main_v107 (F := F) i = (state9 (at3 i)).2 := by
  obtain ⟨h0, h1⟩ := ref_keyed2 (F := F) i
  have hs : val_main_v101 (F := F) i = (state9 (at3 i)).1 := by rw [val_main_v101_apply, h0, h1]; rfl
  refine ⟨hs, ?_⟩
  rw [val_main_v107_apply, val_main_v106_apply, val_main_v103_apply, val_main_v105_apply, hs, h1, val_main_v102_apply, val_main_v104_apply, val_main_c_25_apply, val_main_c_26_apply, turn_word _ _ _ _ (by decide) (by decide)]; rfl

/-- Round 10. -/
theorem ref_state10 (i : S128x10x32768.Idx) :
    val_main_v108 (F := F) i = (state10 (at3 i)).1 ∧ val_main_v114 (F := F) i = (state10 (at3 i)).2 := by
  obtain ⟨h0, h1⟩ := ref_state9 (F := F) i
  have hs : val_main_v108 (F := F) i = (state10 (at3 i)).1 := by rw [val_main_v108_apply, h0, h1]; rfl
  refine ⟨hs, ?_⟩
  rw [val_main_v114_apply, val_main_v113_apply, val_main_v110_apply, val_main_v112_apply, hs, h1, val_main_v109_apply, val_main_v111_apply, val_main_c_27_apply, val_main_c_28_apply, turn_word _ _ _ _ (by decide) (by decide)]; rfl

/-- Round 11. -/
theorem ref_state11 (i : S128x10x32768.Idx) :
    val_main_v115 (F := F) i = (state11 (at3 i)).1 ∧ val_main_v121 (F := F) i = (state11 (at3 i)).2 := by
  obtain ⟨h0, h1⟩ := ref_state10 (F := F) i
  have hs : val_main_v115 (F := F) i = (state11 (at3 i)).1 := by rw [val_main_v115_apply, h0, h1]; rfl
  refine ⟨hs, ?_⟩
  rw [val_main_v121_apply, val_main_v120_apply, val_main_v117_apply, val_main_v119_apply, hs, h1, val_main_v116_apply, val_main_v118_apply, val_main_c_29_apply, val_main_c_30_apply, turn_word _ _ _ _ (by decide) (by decide)]; rfl

/-- Round 12. -/
theorem ref_state12 (i : S128x10x32768.Idx) :
    val_main_v122 (F := F) i = (state12 (at3 i)).1 ∧ val_main_v128 (F := F) i = (state12 (at3 i)).2 := by
  obtain ⟨h0, h1⟩ := ref_state11 (F := F) i
  have hs : val_main_v122 (F := F) i = (state12 (at3 i)).1 := by rw [val_main_v122_apply, h0, h1]; rfl
  refine ⟨hs, ?_⟩
  rw [val_main_v128_apply, val_main_v127_apply, val_main_v124_apply, val_main_v126_apply, hs, h1, val_main_v123_apply, val_main_v125_apply, val_main_c_31_apply, val_main_c_32_apply, turn_word _ _ _ _ (by decide) (by decide)]; rfl

/-- Key addition 3. -/
theorem ref_keyed3 (i : S128x10x32768.Idx) :
    val_main_v130 (F := F) i = (keyed3 (at3 i)).1 ∧ val_main_v134 (F := F) i = (keyed3 (at3 i)).2 := by
  obtain ⟨h0, h1⟩ := ref_state12 (F := F) i
  constructor
  · rw [val_main_v130_apply, h0, val_main_v129_apply, key0]; rfl
  · rw [val_main_v134_apply, val_main_v132_apply, h1, val_main_v131_apply, key1, val_main_v133_apply, val_main_c_33_apply]; rfl

/-- Round 13. -/
theorem ref_state13 (i : S128x10x32768.Idx) :
    val_main_v135 (F := F) i = (state13 (at3 i)).1 ∧ val_main_v141 (F := F) i = (state13 (at3 i)).2 := by
  obtain ⟨h0, h1⟩ := ref_keyed3 (F := F) i
  have hs : val_main_v135 (F := F) i = (state13 (at3 i)).1 := by rw [val_main_v135_apply, h0, h1]; rfl
  refine ⟨hs, ?_⟩
  rw [val_main_v141_apply, val_main_v140_apply, val_main_v137_apply, val_main_v139_apply, hs, h1, val_main_v136_apply, val_main_v138_apply, val_main_c_34_apply, val_main_c_35_apply, turn_word _ _ _ _ (by decide) (by decide)]; rfl

/-- Round 14. -/
theorem ref_state14 (i : S128x10x32768.Idx) :
    val_main_v142 (F := F) i = (state14 (at3 i)).1 ∧ val_main_v148 (F := F) i = (state14 (at3 i)).2 := by
  obtain ⟨h0, h1⟩ := ref_state13 (F := F) i
  have hs : val_main_v142 (F := F) i = (state14 (at3 i)).1 := by rw [val_main_v142_apply, h0, h1]; rfl
  refine ⟨hs, ?_⟩
  rw [val_main_v148_apply, val_main_v147_apply, val_main_v144_apply, val_main_v146_apply, hs, h1, val_main_v143_apply, val_main_v145_apply, val_main_c_36_apply, val_main_c_37_apply, turn_word _ _ _ _ (by decide) (by decide)]; rfl

/-- Round 15. -/
theorem ref_state15 (i : S128x10x32768.Idx) :
    val_main_v149 (F := F) i = (state15 (at3 i)).1 ∧ val_main_v155 (F := F) i = (state15 (at3 i)).2 := by
  obtain ⟨h0, h1⟩ := ref_state14 (F := F) i
  have hs : val_main_v149 (F := F) i = (state15 (at3 i)).1 := by rw [val_main_v149_apply, h0, h1]; rfl
  refine ⟨hs, ?_⟩
  rw [val_main_v155_apply, val_main_v154_apply, val_main_v151_apply, val_main_v153_apply, hs, h1, val_main_v150_apply, val_main_v152_apply, val_main_c_38_apply, val_main_c_39_apply, turn_word _ _ _ _ (by decide) (by decide)]; rfl

/-- Round 16. -/
theorem ref_state16 (i : S128x10x32768.Idx) :
    val_main_v156 (F := F) i = (state16 (at3 i)).1 ∧ val_main_v162 (F := F) i = (state16 (at3 i)).2 := by
  obtain ⟨h0, h1⟩ := ref_state15 (F := F) i
  have hs : val_main_v156 (F := F) i = (state16 (at3 i)).1 := by rw [val_main_v156_apply, h0, h1]; rfl
  refine ⟨hs, ?_⟩
  rw [val_main_v162_apply, val_main_v161_apply, val_main_v158_apply, val_main_v160_apply, hs, h1, val_main_v157_apply, val_main_v159_apply, val_main_c_40_apply, val_main_c_41_apply, turn_word _ _ _ _ (by decide) (by decide)]; rfl

/-- Key addition 4. -/
theorem ref_keyed4 (i : S128x10x32768.Idx) :
    val_main_v164 (F := F) i = (keyed4 (at3 i)).1 ∧ val_main_v168 (F := F) i = (keyed4 (at3 i)).2 := by
  obtain ⟨h0, h1⟩ := ref_state16 (F := F) i
  constructor
  · rw [val_main_v164_apply, h0, val_main_v163_apply, key1]; rfl
  · rw [val_main_v168_apply, val_main_v166_apply, h1, val_main_v165_apply, key2, val_main_v167_apply, val_main_c_42_apply]; rfl

/-- Round 17. -/
theorem ref_state17 (i : S128x10x32768.Idx) :
    val_main_v169 (F := F) i = (state17 (at3 i)).1 ∧ val_main_v175 (F := F) i = (state17 (at3 i)).2 := by
  obtain ⟨h0, h1⟩ := ref_keyed4 (F := F) i
  have hs : val_main_v169 (F := F) i = (state17 (at3 i)).1 := by rw [val_main_v169_apply, h0, h1]; rfl
  refine ⟨hs, ?_⟩
  rw [val_main_v175_apply, val_main_v174_apply, val_main_v171_apply, val_main_v173_apply, hs, h1, val_main_v170_apply, val_main_v172_apply, val_main_c_43_apply, val_main_c_44_apply, turn_word _ _ _ _ (by decide) (by decide)]; rfl

/-- Round 18. -/
theorem ref_state18 (i : S128x10x32768.Idx) :
    val_main_v176 (F := F) i = (state18 (at3 i)).1 ∧ val_main_v182 (F := F) i = (state18 (at3 i)).2 := by
  obtain ⟨h0, h1⟩ := ref_state17 (F := F) i
  have hs : val_main_v176 (F := F) i = (state18 (at3 i)).1 := by rw [val_main_v176_apply, h0, h1]; rfl
  refine ⟨hs, ?_⟩
  rw [val_main_v182_apply, val_main_v181_apply, val_main_v178_apply, val_main_v180_apply, hs, h1, val_main_v177_apply, val_main_v179_apply, val_main_c_45_apply, val_main_c_46_apply, turn_word _ _ _ _ (by decide) (by decide)]; rfl

/-- Round 19. -/
theorem ref_state19 (i : S128x10x32768.Idx) :
    val_main_v183 (F := F) i = (state19 (at3 i)).1 ∧ val_main_v189 (F := F) i = (state19 (at3 i)).2 := by
  obtain ⟨h0, h1⟩ := ref_state18 (F := F) i
  have hs : val_main_v183 (F := F) i = (state19 (at3 i)).1 := by rw [val_main_v183_apply, h0, h1]; rfl
  refine ⟨hs, ?_⟩
  rw [val_main_v189_apply, val_main_v188_apply, val_main_v185_apply, val_main_v187_apply, hs, h1, val_main_v184_apply, val_main_v186_apply, val_main_c_47_apply, val_main_c_48_apply, turn_word _ _ _ _ (by decide) (by decide)]; rfl

/-- Round 20. -/
theorem ref_state20 (i : S128x10x32768.Idx) :
    val_main_v190 (F := F) i = (state20 (at3 i)).1 ∧ val_main_v196 (F := F) i = (state20 (at3 i)).2 := by
  obtain ⟨h0, h1⟩ := ref_state19 (F := F) i
  have hs : val_main_v190 (F := F) i = (state20 (at3 i)).1 := by rw [val_main_v190_apply, h0, h1]; rfl
  refine ⟨hs, ?_⟩
  rw [val_main_v196_apply, val_main_v195_apply, val_main_v192_apply, val_main_v194_apply, hs, h1, val_main_v191_apply, val_main_v193_apply, val_main_c_49_apply, val_main_c_50_apply, turn_word _ _ _ _ (by decide) (by decide)]; rfl

/-- The combined word. -/
theorem ref_hash (i : S128x10x32768.Idx) : val_main_v203 (F := F) i = hashWord (at3 i) := by
  obtain ⟨h0, h1⟩ := ref_state20 (F := F) i
  rw [val_main_v203_apply, val_main_v198_apply, h0, val_main_v197_apply, key2, val_main_v202_apply, val_main_v200_apply, h1,
    val_main_v199_apply, key0, val_main_v201_apply, val_main_c_51_apply]
  rfl

end Cert.ReferenceIdeal.Hand

end

end
-- ==== Proof.RefValue.lean ====
/-
  THE REFERENCE'S RESULT.

  Read at an index at the extended reals: the noise of an element is minus the logarithm of `wait` of its hash word, a row's softmax is
  the row's `share` (Proof/RowAlgebra.lean) where the row has a finite maximum, and the result is the greatest of the ten shares.
-/
module

public import proofs.«01_k».proof.Proof.RefWords
public import proofs.«01_k».proof.Proof.RowAlgebra

@[expose] public section

noncomputable section

namespace Cert.ReferenceIdeal.Hand

open Cert.ReferenceIdeal Cert.ReferenceIdeal.Gen Cert.ReferenceIdeal.Read Cert.Hash Cert.Row
open Idealize.ShloMosaic

/-- The waiting value of element (b, k, c). -/
abbrev waitAt (b k c : Nat) : ℝ := wait (hashWord (counter b k c))

/-- The array of logits. -/
abbrev Logits : Type := (⟨S128x32768, .f32⟩ : BufTy).Contents (Elt Ideal)

/-- The index of row `b` and column `c`. -/
abbrev ix2 (b : Fin 128) (c : Fin 32768) : S128x32768.Idx := fun a => match a with
  | ⟨0, _⟩ => b
  | ⟨1, _⟩ => c

/-- The index of row `b`, sample `k` and column `c`. -/
abbrev ix3 (b : Fin 128) (k : Fin 10) (c : Fin 32768) : S128x10x32768.Idx := fun a => match a with
  | ⟨0, _⟩ => b
  | ⟨1, _⟩ => k
  | ⟨2, _⟩ => c

/-- The index of row `b` and sample `k`. -/
abbrev ix2k (b : Fin 128) (k : Fin 10) : S128x10.Idx := fun a => match a with
  | ⟨0, _⟩ => b
  | ⟨1, _⟩ => k

/-- Row `b` of the logits. -/
abbrev logitRow (x0 : Logits) (b : Fin 128) (c : Fin 32768) : EReal := x0 (ix2 b c)

/-- The float made of the hash word. -/
theorem ref_unit (i : S128x10x32768.Idx) :
    val_main_v208 (F := Ideal) i = ((1 + frac (hashWord (at3 i)) : ℝ) : EReal) := by
  rw [val_main_v208_apply, val_main_v207_apply, val_main_v205_apply, ref_hash, val_main_v204_apply, val_main_c_52_apply,
    val_main_v206_apply, val_main_c_53_apply, shrui_small _ _ _ (by decide)]
  exact bits_unitWord _

/-- The uniform draw. -/
theorem ref_draw (i : S128x10x32768.Idx) : val_main_v216 (F := Ideal) i = (draw (hashWord (at3 i)) : EReal) := by
  rw [val_main_v216_apply, val_main_v215_apply, val_main_cst_56_apply, val_main_v214_apply, val_main_v213_apply, val_main_cst_55_apply,
    val_main_v212_apply, val_main_v211_apply, val_main_cst_54_apply, val_main_v210_apply, val_main_v209_apply, val_main_cst_apply, ref_unit]
  simp only [Ideal.maximumf_def, Ideal.addf_def, Ideal.mulf_def, Ideal.subf_def, Ideal.ofBits_def, Ideal.ofBits_one_f32, bits_tiny, mul_one]
  exact clamp_draw _

/-- The noise. -/
theorem ref_noise (i : S128x10x32768.Idx) :
    val_main_v220 (F := Ideal) i = ((-Real.log (waitAt (i 0).val (i 1).val (i 2).val) : ℝ) : EReal) := by
  rw [val_main_v220_apply, val_main_v219_apply, val_main_v218_apply, val_main_v217_apply, ref_draw]
  simp only [Ideal.hostNegf_def, Ideal.negf_def, Ideal.hostUnary_log_def]
  rw [log_real (draw_pos _), ← EReal.coe_neg]
  show -Ideal.log ((wait _ : ℝ) : EReal) = _
  rw [log_real (wait_pos _), ← EReal.coe_neg]

/-- The scaled logit plus noise. -/
theorem ref_noisy (x0 : Logits) (b : Fin 128) (k : Fin 10) (c : Fin 32768) :
    val_main_v224 (F := Ideal) x0 (ix3 b k c)
      = Ideal.div (((-Real.log (waitAt b.val k.val c.val) : ℝ) : EReal) + logitRow x0 b c) ((1 / 2 : ℝ) : EReal) := by
  rw [val_main_v224_apply, val_main_v222_apply, val_main_v223_apply, val_main_cst_57_apply, val_main_v221_apply, val_main_v0_apply, ref_noise]
  simp only [Ideal.hostDivf_def, Ideal.addf_def, Ideal.ofBits_def, bits_half]
  congr 3

/-- The axes of the reduction over columns, in the form that names the inserted index. -/
theorem reduces_cols : S128x10x32768.Reduces [2] S128x10 := by decide

/-- The axes of the reduction over samples, in the form that names the inserted index. -/
theorem reduces_samples : S128x10x32768.Reduces [1] S128x32768 := by decide

/-- The maximum that the softmax of row `b`, sample `k` subtracts. -/
theorem ref_max (x0 : Logits) (b : Fin 128) (k : Fin 10) :
    val_main_v227 (F := Ideal) x0 (ix2k b k) = (Finset.univ : Finset (Fin 32768)).fold max ⊥ (fun c =>
      Ideal.div (((-Real.log (waitAt b.val k.val c.val) : ℝ) : EReal) + logitRow x0 b c) ((1 / 2 : ℝ) : EReal)) := by
  rw [val_main_v227_apply, val_main_v226_apply, val_main_cst_59_apply]
  unfold val_main_v225
  rw [Host.reduce_eq_fold_single FloatOps.maximumf _ _ _ reduces_cols, val_main_cst_58_apply]
  simp only [Ideal.maximumf_def, Ideal.ofBits_def, bits_bot]
  rw [max_eq_right bot_le]
  have e : (val_main_v224 (F := Ideal) x0 ∘ reduces_cols.lift (ix2k b k)) = (fun c : Fin 32768 =>
      Ideal.div (((-Real.log (waitAt b.val k.val c.val) : ℝ) : EReal) + logitRow x0 b c) ((1 / 2 : ℝ) : EReal)) := by
    refine funext fun c : Fin 32768 => Eq.trans ?_ (ref_noisy x0 b k c)
    refine congrArg (val_main_v224 (F := Ideal) x0) (funext fun a => ?_)
    match a with
    | ⟨0, _⟩ => rfl
    | ⟨1, _⟩ => rfl
    | ⟨2, _⟩ => rfl
  rw [e]
  rfl

/-- The exponential of row `b`, sample `k` at column `c`. -/
theorem ref_exp (x0 : Logits) (b : Fin 128) (k : Fin 10) (c : Fin 32768) :
    val_main_v231 (F := Ideal) x0 (ix3 b k c)
      = Ideal.exp (Ideal.div (((-Real.log (waitAt b.val k.val c.val) : ℝ) : EReal) + logitRow x0 b c) ((1 / 2 : ℝ) : EReal)
          - val_main_v227 (F := Ideal) x0 (ix2k b k)) := by
  rw [val_main_v231_apply, val_main_v230_apply, ref_noisy, val_main_v229_apply, val_main_v228_apply]
  show Ideal.exp (_ - _) = _
  congr 3

/-- The softmax of row `b`, sample `k`: the row's shares. -/
theorem ref_share (x0 : Logits) (b : Fin 128) (k : Fin 10) (c : Fin 32768) (ht : ∀ c, logitRow x0 b c ≠ ⊤) (hb : ∃ c, logitRow x0 b c ≠ ⊥) :
    val_main_v235 (F := Ideal) x0 (ix3 b k c) = (share (logitRow x0 b) (fun c => waitAt b.val k.val c.val) c : EReal) := by
  have hs : ∀ j c', j = ix2k b k → val_main_v231 (F := Ideal) x0 (idx_main_v232 j c')
      = Ideal.exp (Ideal.div (((-Real.log (waitAt b.val k.val c'.val) : ℝ) : EReal) + logitRow x0 b c') ((1 / 2 : ℝ) : EReal)
          - val_main_v227 (F := Ideal) x0 (ix2k b k)) := fun j c' hj => by
    subst hj
    refine Eq.trans (congrArg (val_main_v231 (F := Ideal) x0) (funext fun a => ?_)) (ref_exp x0 b k c')
    match a with
    | ⟨0, _⟩ => rfl
    | ⟨1, _⟩ => rfl
    | ⟨2, _⟩ => rfl
  rw [val_main_v235_apply, val_main_v234_apply, val_main_v233_apply, val_main_v232_apply, val_main_cst_60_apply, ref_exp,
    Finset.sum_congr rfl (fun c' _ => hs _ c' (funext fun a => match a with
      | ⟨0, _⟩ => rfl
      | ⟨1, _⟩ => rfl))]
  simp only [Ideal.hostDivf_def, Ideal.ofBits_def, Ideal.ofBits_zero_f32, zero_add]
  exact reference_row (logitRow x0 b) (fun c => waitAt b.val k.val c.val) (fun c => wait_pos _) ht hb _ (ref_max x0 b k) c

/-- The result at row `b` and column `c`: the greatest of the ten samples' shares. -/
theorem ref_result (x0 : Logits) (b : Fin 128) (c : Fin 32768) (ht : ∀ c, logitRow x0 b c ≠ ⊤) (hb : ∃ c, logitRow x0 b c ≠ ⊥) :
    val_main_v236 (F := Ideal) x0 (ix2 b c)
      = (Finset.univ : Finset (Fin 10)).fold max ⊥ (fun k => (share (logitRow x0 b) (fun c => waitAt b.val k.val c.val) c : EReal)) := by
  unfold val_main_v236
  rw [Host.reduce_eq_fold_single FloatOps.maximumf _ _ _ reduces_samples, val_main_cst_61_apply]
  simp only [Ideal.ofBits_def, bits_bot]
  have e : (val_main_v235 (F := Ideal) x0 ∘ reduces_samples.lift (ix2 b c)) = (fun k : Fin 10 =>
      (share (logitRow x0 b) (fun c => waitAt b.val k.val c.val) c : EReal)) := by
    refine funext fun k : Fin 10 => Eq.trans ?_ (ref_share x0 b k c ht hb)
    refine congrArg (val_main_v235 (F := Ideal) x0) (funext fun a => ?_)
    match a with
    | ⟨0, _⟩ => rfl
    | ⟨1, _⟩ => rfl
    | ⟨2, _⟩ => rfl
  rw [e]
  rfl

end Cert.ReferenceIdeal.Hand

end

end
-- ==== Proof.lean ====
/-
  The proof of `Cert.Claim`: the kernel's two frames (Proof/WholeRun.lean), the reference's frame (the generated run), the
  statement that the idealized kernel is the kernel's own text, and the algebraic claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.WholeRun
public import proofs.«01_k».proof.Proof.Arrays
public import proofs.«01_k».proof.Proof.RefValue
public import proofs.«01_k».proof.Proof.Printed.WholeRun
public import Idealize.ShloMosaic.Adequacy
public import Idealize.ShloMosaic.Init

@[expose] public section

noncomputable section

namespace Cert.Proof

open Idealize.ShloMosaic Idealize.SL.Sem Cert.Kernel

/-- The kernel's frame at the machine's floats: the printed program's run. -/
theorem kernel_frame : @Cert.quiescent_Kernel Cert.Kernel.Gen.facts :=
  fun m ρ _ => Cert.Kernel.Hand.whole_frame (F := Bits) m ρ

/-- The idealized kernel's frame. -/
theorem ideal_frame : @Cert.quiescent_KernelIdeal Cert.KernelIdeal.Gen.facts :=
  fun m ρ _ => Cert.KernelIdeal.Hand.whole_frame (F := Ideal) m ρ

/-- The reference's frame: its run leaves the argument, and it declares no semaphore. -/
theorem reference_frame : @Cert.quiescent_ReferenceIdeal Cert.ReferenceIdeal.Gen.facts :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The precondition's side conditions. -/
theorem pre_facts : Cert.Pre_finite_row_max.Facts where
  reducesTo_S128x32768_S128_d1 := by decide
  h_S_ := by decide
  bcast_S_S128 := by decide

/-- The axes of the precondition's reduction, in the form that names the inserted index. -/
theorem reduces_logits : Cert.Pre_finite_row_max.S128x32768.Reduces [1] Cert.Pre_finite_row_max.S128 := by decide

/-- A value whose larger of itself and its negation is below infinity is a real number. -/
theorem real_of_abs_lt (M : EReal) (h : max M (-M) < ⊤) : ∃ r : ℝ, M = (r : EReal) := by
  have h1 : M ≠ ⊤ := fun e => absurd h (by rw [e]; exact fun h => absurd (lt_of_le_of_lt (le_max_left _ _) h) (lt_irrefl _))
  have h2 : M ≠ ⊥ := fun e => absurd h (by rw [e, EReal.neg_bot]; exact fun h => absurd (lt_of_le_of_lt (le_max_right _ _) h) (lt_irrefl _))
  exact ⟨M.toReal, (EReal.coe_toReal h1 h2).symm⟩

/-- The comparison's answer read as an order. -/
theorem lt_of_cmp {x y : EReal} (h : Ideal.cmp .olt x y = 1#1) : x < y := by
  by_contra hn
  have : Ideal.cmp .olt x y = 0#1 := by simp [Ideal.cmp, hn]
  rw [this] at h
  exact absurd h (by decide)

/-- The index of row `b`. -/
abbrev row (b : Fin 128) : Cert.Pre_finite_row_max.S128.Idx := fun a => match a with
  | ⟨0, _⟩ => b

/-- The precondition's row maximum. -/
theorem pre_max (x : FVec Ideal Cert.Pre_finite_row_max.S128x32768 .f32)
    (h' : Cert.Pre_finite_row_max.S128x32768.ReducesTo [1] Cert.Pre_finite_row_max.S128) (hu : 0 < Cert.Pre_finite_row_max.S_.numel) (b : Fin 128) :
    Host.reduce FloatOps.maximumf x (constant (F := Ideal) Cert.Pre_finite_row_max.S_ .f32 0xFF800000#32) h' hu (row b)
      = (Finset.univ : Finset (Fin 32768)).fold max ⊥ (fun c => x (Cert.KernelIdeal.Hand.gx b c)) := by
  rw [Host.reduce_eq_fold_single FloatOps.maximumf _ _ _ reduces_logits]
  have e : (x ∘ reduces_logits.lift (row b)) = fun c : Fin 32768 => x (Cert.KernelIdeal.Hand.gx b c) :=
    funext fun c : Fin 32768 => congrArg x (funext fun a => match a with
      | ⟨0, _⟩ => rfl
      | ⟨1, _⟩ => rfl)
  rw [e, show ∀ j, constant (F := Ideal) Cert.Pre_finite_row_max.S_ .f32 0xFF800000#32 j = (⊥ : EReal) from fun _ => Cert.Hash.bits_bot]
  simp only [Ideal.maximumf_def]
  rfl

/-- The precondition at a row, of any row maximum. -/
theorem pre_row (R : FVec Ideal Cert.Pre_finite_row_max.S128 .f32) (h' : Cert.Pre_finite_row_max.S_.BroadcastsInDim Cert.Pre_finite_row_max.S128 (![] : Fin 0 → Fin Cert.Pre_finite_row_max.S128.rank))
    (i : Cert.Pre_finite_row_max.S128.Idx)
    (h : cmpf (F := Ideal) .olt (Host.absf R) (broadcastInDim Cert.Pre_finite_row_max.S128 ![] h' (constant Cert.Pre_finite_row_max.S_ .f32 0x7F800000#32)) i = 1#1) :
    ∃ r : ℝ, R i = (r : EReal) := by
  have hb : Ideal.cmp .olt (max (R i) (-(R i))) (Ideal.ofBits .f32 0x7F800000#32) = 1#1 := h
  rw [Cert.Hash.bits_top] at hb
  exact real_of_abs_lt _ (lt_of_cmp hb)

/-- The precondition says that every row's maximum is a real number. -/
theorem rows_finite (x : FVec Ideal Cert.Pre_finite_row_max.S128x32768 .f32)
    (h : @Cert.Pre_finite_row_max.fn pre_facts Ideal _ x = fun _ => 1#1) : Cert.KernelIdeal.Hand.RowsFinite x := by
  intro b
  have h1 := congrFun h (row b)
  unfold Cert.Pre_finite_row_max.fn at h1
  obtain ⟨r, hr⟩ := pre_row _ _ _ h1
  exact ⟨r, (pre_max x _ _ b).symm.trans hr⟩

/-- The kernel's result is the reference's. -/
theorem result_eq (m : (ℓ : Loc Cert.KernelIdeal.nD Cert.KernelIdeal.τ Cert.KernelIdeal.sig) → Buf (Elt Ideal) ℓ) (c : Dev Cert.KernelIdeal.nD)
    (hx : Cert.KernelIdeal.Hand.RowsFinite (Cert.KernelIdeal.Hand.logits m c)) :
    Cert.KernelIdeal.Hand.finalOut m c = Cert.ReferenceIdeal.Read.val_main_v236 (F := Ideal) (Cert.KernelIdeal.Hand.logits m c) := by
  rw [Cert.KernelIdeal.Hand.result_final m c hx]
  funext i
  obtain ⟨r, hr⟩ := hx (i 0)
  obtain ⟨ht, hb⟩ := Cert.Row.of_fold_max_real _ r hr
  have e : i = Cert.ReferenceIdeal.Hand.ix2 (i 0) (i 1) := funext fun a => match a with
    | ⟨0, _⟩ => rfl
    | ⟨1, _⟩ => rfl
  exact (Cert.ReferenceIdeal.Hand.ref_result (Cert.KernelIdeal.Hand.logits m c) (i 0) (i 1) ht hb).symm.trans
    (congrArg (Cert.ReferenceIdeal.Read.val_main_v236 (F := Ideal) (Cert.KernelIdeal.Hand.logits m c)) e.symm)

/-- Kernel and reference compute the same function over the extended reals. -/
theorem same_function : @Cert.algebraic_KernelIdeal_ReferenceIdeal_pre_finite_row_max Cert.KernelIdeal.Gen.facts Cert.ReferenceIdeal.Gen.facts pre_facts :=
  fun m g m' g' hpre hag => ⟨Cert.KernelIdeal.Hand.finalOut m,
    (θ_run Cert.KernelIdeal.defs _ _).mono (fun _ h => h.1) (Cert.KernelIdeal.Hand.whole_run (F := Ideal) m g),
    (θ_run Cert.ReferenceIdeal.defs _ _).mono
      (fun _ h c => ⟨((h c).1.trans (Cert.ReferenceIdeal.Read.val_main_v236_eq _)).trans
        ((congrArg (Cert.ReferenceIdeal.Read.val_main_v236 (F := Ideal)) (hag c)).trans (result_eq m c (rows_finite _ (hpre c))).symm), (h c).2⟩)
      (Cert.ReferenceIdeal.Value.run (F := Ideal) m' g')⟩

/-- Everything claimed. -/
theorem claim : Cert.Claim := ⟨Cert.Kernel.Gen.facts, Cert.KernelIdeal.Gen.facts, Cert.ReferenceIdeal.Gen.facts, pre_facts,
  kernel_frame, ideal_frame, fun m g _ => ideal_frame m g trivial, reference_frame, fun m g _ => reference_frame m g trivial, trivial,
  same_function⟩

end Cert.Proof

end
